-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "inv25" .f32 0x3D23D70A#32 ((25⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v318) = v0 c
          ∧ r.2.mem ((c.tc : Thread Cert.ReferenceIdeal.nD Cert.ReferenceIdeal.τ).loc Cert.ReferenceIdeal.main_v334) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x224x224 : Shape := ⟨4, ![64, 3, 224, 224]⟩
abbrev S8x3x7x7 : Shape := ⟨4, ![8, 3, 7, 7]⟩
abbrev S8 : Shape := ⟨1, ![8]⟩
abbrev S16x8x5x5 : Shape := ⟨4, ![16, 8, 5, 5]⟩
abbrev S16 : Shape := ⟨1, ![16]⟩
abbrev S32x16x3x3 : Shape := ⟨4, ![32, 16, 3, 3]⟩
abbrev S32 : Shape := ⟨1, ![32]⟩
abbrev S10368 : Shape := ⟨1, ![10368]⟩
abbrev S32x10368 : Shape := ⟨2, ![32, 10368]⟩
abbrev S5x32 : Shape := ⟨2, ![5, 32]⟩
abbrev S5 : Shape := ⟨1, ![5]⟩
abbrev S2x32 : Shape := ⟨2, ![2, 32]⟩
abbrev S2 : Shape := ⟨1, ![2]⟩
abbrev S_ : Shape := ⟨0, ![]⟩
abbrev S64x3x228x228 : Shape := ⟨4, ![64, 3, 228, 228]⟩
abbrev S64x3x57x4x57x4 : Shape := ⟨6, ![64, 3, 57, 4, 57, 4]⟩
abbrev S64x4x4x3x57x57 : Shape := ⟨6, ![64, 4, 4, 3, 57, 57]⟩
abbrev S8x1x1 : Shape := ⟨3, ![8, 1, 1]⟩
abbrev S64x8x56x56 : Shape := ⟨4, ![64, 8, 56, 56]⟩
abbrev S1x4x4x3x57x57 : Shape := ⟨6, ![1, 4, 4, 3, 57, 57]⟩
abbrev S1x8x56x56 : Shape := ⟨4, ![1, 8, 56, 56]⟩
abbrev S8x56x56 : Shape := ⟨3, ![8, 56, 56]⟩
abbrev S1x1x1x1x56x56 : Shape := ⟨6, ![1, 1, 1, 1, 56, 56]⟩
abbrev S56x56 : Shape := ⟨2, ![56, 56]⟩
abbrev S8x1x1x1 : Shape := ⟨4, ![8, 1, 1, 1]⟩
abbrev S1x56x56 : Shape := ⟨3, ![1, 56, 56]⟩
abbrev S64x8x60x60 : Shape := ⟨4, ![64, 8, 60, 60]⟩
abbrev S64x8x20x3x20x3 : Shape := ⟨6, ![64, 8, 20, 3, 20, 3]⟩
abbrev S3x3x8x20x20x64 : Shape := ⟨6, ![3, 3, 8, 20, 20, 64]⟩
abbrev S16x1x1 : Shape := ⟨3, ![16, 1, 1]⟩
abbrev S16x18x18x64 : Shape := ⟨4, ![16, 18, 18, 64]⟩
abbrev S1x8x5x5 : Shape := ⟨4, ![1, 8, 5, 5]⟩
abbrev S1x1x1 : Shape := ⟨3, ![1, 1, 1]⟩
abbrev S1x18x18x64 : Shape := ⟨4, ![1, 18, 18, 64]⟩
abbrev S1x1x1x1 : Shape := ⟨4, ![1, 1, 1, 1]⟩
abbrev S1x1x1x18x18x64 : Shape := ⟨6, ![1, 1, 1, 18, 18, 64]⟩
abbrev S18x18x64 : Shape := ⟨3, ![18, 18, 64]⟩
abbrev S14x14x64 : Shape := ⟨3, ![14, 14, 64]⟩
abbrev S1x14x14x64 : Shape := ⟨4, ![1, 14, 14, 64]⟩
abbrev S25x14x14x64 : Shape := ⟨4, ![25, 14, 14, 64]⟩
abbrev S64 : Shape := ⟨1, ![64]⟩
abbrev S1x1x64 : Shape := ⟨3, ![1, 1, 64]⟩
abbrev S16x20x20x64 : Shape := ⟨4, ![16, 20, 20, 64]⟩
abbrev S1x1x16x20x20x64 : Shape := ⟨6, ![1, 1, 16, 20, 20, 64]⟩
abbrev S32x1x1 : Shape := ⟨3, ![32, 1, 1]⟩
abbrev S32x18x18x64 : Shape := ⟨4, ![32, 18, 18, 64]⟩
abbrev S1x16x3x3 : Shape := ⟨4, ![1, 16, 3, 3]⟩
abbrev S64x32x18x18 : Shape := ⟨4, ![64, 32, 18, 18]⟩
abbrev S64x10368 : Shape := ⟨2, ![64, 10368]⟩
abbrev S1x10368 : Shape := ⟨2, ![1, 10368]⟩
abbrev S1x32 : Shape := ⟨2, ![1, 32]⟩
abbrev S1x5 : Shape := ⟨2, ![1, 5]⟩
abbrev S1x2 : Shape := ⟨2, ![1, 2]⟩
abbrev S64x5 : Shape := ⟨2, ![64, 5]⟩
abbrev S64x2 : Shape := ⟨2, ![64, 2]⟩
abbrev S64x32 : Shape := ⟨2, ![64, 32]⟩
abbrev S64x1 : Shape := ⟨2, ![64, 1]⟩

abbrev nBuf : Space → Nat
  | .hbm => 56
  | .vmem => 41
  | .smem => 0
  | _ => 0

abbrev bufTy : (tb : Table) → Fin (tcTables nBuf tb) → BufTy
  | .hbm, ⟨0, _⟩ => ⟨S64x3x224x224, .f32⟩
  | .hbm, ⟨1, _⟩ => ⟨S8x3x7x7, .f32⟩
  | .hbm, ⟨2, _⟩ => ⟨S8, .f32⟩
  | .hbm, ⟨3, _⟩ => ⟨S16x8x5x5, .f32⟩
  | .hbm, ⟨4, _⟩ => ⟨S16, .f32⟩
  | .hbm, ⟨5, _⟩ => ⟨S32x16x3x3, .f32⟩
  | .hbm, ⟨6, _⟩ => ⟨S32, .f32⟩
  | .hbm, ⟨7, _⟩ => ⟨S8, .f32⟩
  | .hbm, ⟨8, _⟩ => ⟨S8, .f32⟩
  | .hbm, ⟨9, _⟩ => ⟨S16, .f32⟩
  | .hbm, ⟨10, _⟩ => ⟨S16, .f32⟩
  | .hbm, ⟨11, _⟩ => ⟨S32, .f32⟩
  | .hbm, ⟨12, _⟩ => ⟨S32, .f32⟩
  | .hbm, ⟨13, _⟩ => ⟨S10368, .f32⟩
  | .hbm, ⟨14, _⟩ => ⟨S10368, .f32⟩
  | .hbm, ⟨15, _⟩ => ⟨S32x10368, .f32⟩
  | .hbm, ⟨16, _⟩ => ⟨S32, .f32⟩
  | .hbm, ⟨17, _⟩ => ⟨S5x32, .f32⟩
  | .hbm, ⟨18, _⟩ => ⟨S5, .f32⟩
  | .hbm, ⟨19, _⟩ => ⟨S2x32, .f32⟩
  | .hbm, ⟨20, _⟩ => ⟨S2, .f32⟩
  | .hbm, ⟨21, _⟩ => ⟨S_, .i32⟩
  | .hbm, ⟨22, _⟩ => ⟨S_, .f32⟩
  | .hbm, ⟨23, _⟩ => ⟨S64x3x228x228, .f32⟩
  | .hbm, ⟨24, _⟩ => ⟨S64x3x57x4x57x4, .f32⟩
  | .hbm, ⟨25, _⟩ => ⟨S64x4x4x3x57x57, .f32⟩
  | .hbm, ⟨26, _⟩ => ⟨S8x1x1, .f32⟩
  | .hbm, ⟨27, _⟩ => ⟨S8x1x1, .f32⟩
  | .hbm, ⟨28, _⟩ => ⟨S8x1x1, .f32⟩
  | .hbm, ⟨29, _⟩ => ⟨S64x8x56x56, .f32⟩
  | .hbm, ⟨30, _⟩ => ⟨S_, .i32⟩
  | .hbm, ⟨31, _⟩ => ⟨S_, .f32⟩
  | .hbm, ⟨32, _⟩ => ⟨S64x8x60x60, .f32⟩
  | .hbm, ⟨33, _⟩ => ⟨S64x8x20x3x20x3, .f32⟩
  | .hbm, ⟨34, _⟩ => ⟨S3x3x8x20x20x64, .f32⟩
  | .hbm, ⟨35, _⟩ => ⟨S16x1x1, .f32⟩
  | .hbm, ⟨36, _⟩ => ⟨S16x1x1, .f32⟩
  | .hbm, ⟨37, _⟩ => ⟨S16x1x1, .f32⟩
  | .hbm, ⟨38, _⟩ => ⟨S16x18x18x64, .f32⟩
  | .hbm, ⟨39, _⟩ => ⟨S_, .i32⟩
  | .hbm, ⟨40, _⟩ => ⟨S_, .f32⟩
  | .hbm, ⟨41, _⟩ => ⟨S16x20x20x64, .f32⟩
  | .hbm, ⟨42, _⟩ => ⟨S1x1x16x20x20x64, .f32⟩
  | .hbm, ⟨43, _⟩ => ⟨S32x1x1, .f32⟩
  | .hbm, ⟨44, _⟩ => ⟨S32x1x1, .f32⟩
  | .hbm, ⟨45, _⟩ => ⟨S32x1x1, .f32⟩
  | .hbm, ⟨46, _⟩ => ⟨S32x18x18x64, .f32⟩
  | .hbm, ⟨47, _⟩ => ⟨S64x32x18x18, .f32⟩
  | .hbm, ⟨48, _⟩ => ⟨S64x10368, .f32⟩
  | .hbm, ⟨49, _⟩ => ⟨S1x10368, .f32⟩
  | .hbm, ⟨50, _⟩ => ⟨S1x10368, .f32⟩
  | .hbm, ⟨51, _⟩ => ⟨S1x32, .f32⟩
  | .hbm, ⟨52, _⟩ => ⟨S1x5, .f32⟩
  | .hbm, ⟨53, _⟩ => ⟨S1x2, .f32⟩
  | .hbm, ⟨54, _⟩ => ⟨S64x5, .f32⟩
  | .hbm, ⟨55, _⟩ => ⟨S64x2, .f32⟩
  | .local _ .vmem, ⟨0, _⟩ => ⟨S1x4x4x3x57x57, .f32⟩
  | .local _ .vmem, ⟨1, _⟩ => ⟨S1x4x4x3x57x57, .f32⟩
  | .local _ .vmem, ⟨2, _⟩ => ⟨S8x3x7x7, .f32⟩
  | .local _ .vmem, ⟨3, _⟩ => ⟨S8x1x1, .f32⟩
  | .local _ .vmem, ⟨4, _⟩ => ⟨S8x1x1, .f32⟩
  | .local _ .vmem, ⟨5, _⟩ => ⟨S8x1x1, .f32⟩
  | .local _ .vmem, ⟨6, _⟩ => ⟨S1x8x56x56, .f32⟩
  | .local _ .vmem, ⟨7, _⟩ => ⟨S1x8x56x56, .f32⟩
  | .local _ .vmem, ⟨8, _⟩ => ⟨S3x3x8x20x20x64, .f32⟩
  | .local _ .vmem, ⟨9, _⟩ => ⟨S1x8x5x5, .f32⟩
  | .local _ .vmem, ⟨10, _⟩ => ⟨S1x8x5x5, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x18x18x64, .f32⟩
  | .local _ .vmem, ⟨18, _⟩ => ⟨S1x18x18x64, .f32⟩
  | .local _ .vmem, ⟨19, _⟩ => ⟨S1x1x16x20x20x64, .f32⟩
  | .local _ .vmem, ⟨20, _⟩ => ⟨S1x16x3x3, .f32⟩
  | .local _ .vmem, ⟨21, _⟩ => ⟨S1x16x3x3, .f32⟩
  | .local _ .vmem, ⟨22, _⟩ => ⟨S1x1x1, .f32⟩
  | .local _ .vmem, ⟨23, _⟩ => ⟨S1x1x1, .f32⟩
  | .local _ .vmem, ⟨24, _⟩ => ⟨S1x1x1, .f32⟩
  | .local _ .vmem, ⟨25, _⟩ => ⟨S1x1x1, .f32⟩
  | .local _ .vmem, ⟨26, _⟩ => ⟨S1x1x1, .f32⟩
  | .local _ .vmem, ⟨27, _⟩ => ⟨S1x1x1, .f32⟩
  | .local _ .vmem, ⟨28, _⟩ => ⟨S1x18x18x64, .f32⟩
  | .local _ .vmem, ⟨29, _⟩ => ⟨S1x18x18x64, .f32⟩
  | .local _ .vmem, ⟨30, _⟩ => ⟨S64x10368, .f32⟩
  | .local _ .vmem, ⟨31, _⟩ => ⟨S1x10368, .f32⟩
  | .local _ .vmem, ⟨32, _⟩ => ⟨S1x10368, .f32⟩
  | .local _ .vmem, ⟨33, _⟩ => ⟨S32x10368, .f32⟩
  | .local _ .vmem, ⟨34, _⟩ => ⟨S1x32, .f32⟩
  | .local _ .vmem, ⟨35, _⟩ => ⟨S5x32, .f32⟩
  | .local _ .vmem, ⟨36, _⟩ => ⟨S1x5, .f32⟩
  | .local _ .vmem, ⟨37, _⟩ => ⟨S2x32, .f32⟩
  | .local _ .vmem, ⟨38, _⟩ => ⟨S1x2, .f32⟩
  | .local _ .vmem, ⟨39, _⟩ => ⟨S64x5, .f32⟩
  | .local _ .vmem, ⟨40, _⟩ => ⟨S64x2, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_call1_v0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_call2_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27_0 : Ref sig .tc := ⟨.hbm, 54, rfl⟩
abbrev main_v27_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg10_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x4x3x57x57 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3x7x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x56x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, c0_i32_0.toNat, c0_i32_1.toNat, c0_i32_2.toNat, c0_i32_3.toNat, c0_i32_4.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .vmem S3x3x8x20x20x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x8x5x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x18x18x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, c0_i32_0.toNat, c0_i32_1.toNat, c0_i32_2.toNat, c0_i32_3.toNat, c0_i32_4.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 1 → Memref sig .tc .vmem S1x1x16x20x20x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x16x3x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x18x18x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := .none

abbrev stage3_0 : Fin 1 → Memref sig .tc .vmem S64x10368 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x10368 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x10368 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S32x10368 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S5x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x5 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S2x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S64x5 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S64x2 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
-- ==== KernelIdeal.lean ====
variable {F : FTy → Type} [FloatOps F] [Named F]
def κ : String → Option EReal := fun
  | "inv25" => some ((25⁻¹ : ℝ) : EReal)
  | _ => none
-- ==== ReferenceIdeal.lean ====
abbrev S64x3x224x224 : Shape := ⟨4, ![64, 3, 224, 224]⟩
abbrev S8x3x7x7 : Shape := ⟨4, ![8, 3, 7, 7]⟩
abbrev S8 : Shape := ⟨1, ![8]⟩
abbrev S16x8x5x5 : Shape := ⟨4, ![16, 8, 5, 5]⟩
abbrev S16 : Shape := ⟨1, ![16]⟩
abbrev S32x16x3x3 : Shape := ⟨4, ![32, 16, 3, 3]⟩
abbrev S32 : Shape := ⟨1, ![32]⟩
abbrev S10368 : Shape := ⟨1, ![10368]⟩
abbrev S32x10368 : Shape := ⟨2, ![32, 10368]⟩
abbrev S5x32 : Shape := ⟨2, ![5, 32]⟩
abbrev S5 : Shape := ⟨1, ![5]⟩
abbrev S2x32 : Shape := ⟨2, ![2, 32]⟩
abbrev S2 : Shape := ⟨1, ![2]⟩
abbrev S_ : Shape := ⟨0, ![]⟩
abbrev S64x3x228x228 : Shape := ⟨4, ![64, 3, 228, 228]⟩
abbrev S8x3x49 : Shape := ⟨3, ![8, 3, 49]⟩
abbrev S64x3x56x228 : Shape := ⟨4, ![64, 3, 56, 228]⟩
abbrev S64x3x1x56x228 : Shape := ⟨5, ![64, 3, 1, 56, 228]⟩
abbrev S64x3x7x56x228 : Shape := ⟨5, ![64, 3, 7, 56, 228]⟩
abbrev S64x3x7x56x56 : Shape := ⟨5, ![64, 3, 7, 56, 56]⟩
abbrev S64x3x7x1x56x56 : Shape := ⟨6, ![64, 3, 7, 1, 56, 56]⟩
abbrev S64x3x7x7x56x56 : Shape := ⟨6, ![64, 3, 7, 7, 56, 56]⟩
abbrev S64x3x49x56x56 : Shape := ⟨5, ![64, 3, 49, 56, 56]⟩
abbrev S64x56x56x8 : Shape := ⟨4, ![64, 56, 56, 8]⟩
abbrev S64x8x56x56 : Shape := ⟨4, ![64, 8, 56, 56]⟩
abbrev S1x8x1x1 : Shape := ⟨4, ![1, 8, 1, 1]⟩
abbrev S64x8 : Shape := ⟨2, ![64, 8]⟩
abbrev S64x8x1x1 : Shape := ⟨4, ![64, 8, 1, 1]⟩
abbrev S64x8x58x58 : Shape := ⟨4, ![64, 8, 58, 58]⟩
abbrev S16x8x25 : Shape := ⟨3, ![16, 8, 25]⟩
abbrev S64x8x18x58 : Shape := ⟨4, ![64, 8, 18, 58]⟩
abbrev S64x8x1x18x58 : Shape := ⟨5, ![64, 8, 1, 18, 58]⟩
abbrev S64x8x5x18x58 : Shape := ⟨5, ![64, 8, 5, 18, 58]⟩
abbrev S64x8x5x18x18 : Shape := ⟨5, ![64, 8, 5, 18, 18]⟩
abbrev S64x8x5x1x18x18 : Shape := ⟨6, ![64, 8, 5, 1, 18, 18]⟩
abbrev S64x8x5x5x18x18 : Shape := ⟨6, ![64, 8, 5, 5, 18, 18]⟩
abbrev S64x8x25x18x18 : Shape := ⟨5, ![64, 8, 25, 18, 18]⟩
abbrev S64x18x18x16 : Shape := ⟨4, ![64, 18, 18, 16]⟩
abbrev S64x16x18x18 : Shape := ⟨4, ![64, 16, 18, 18]⟩
abbrev S1x16x1x1 : Shape := ⟨4, ![1, 16, 1, 1]⟩
abbrev S64x16x14x18 : Shape := ⟨4, ![64, 16, 14, 18]⟩
abbrev S64x16x1x14x18 : Shape := ⟨5, ![64, 16, 1, 14, 18]⟩
abbrev S64x16x5x14x18 : Shape := ⟨5, ![64, 16, 5, 14, 18]⟩
abbrev S64x16x5x14x14 : Shape := ⟨5, ![64, 16, 5, 14, 14]⟩
abbrev S64x16x5x1x14x14 : Shape := ⟨6, ![64, 16, 5, 1, 14, 14]⟩
abbrev S64x16x5x5x14x14 : Shape := ⟨6, ![64, 16, 5, 5, 14, 14]⟩
abbrev S64x16x25x14x14 : Shape := ⟨5, ![64, 16, 25, 14, 14]⟩
abbrev S64x16x25x196 : Shape := ⟨4, ![64, 16, 25, 196]⟩
abbrev S64x16x196 : Shape := ⟨3, ![64, 16, 196]⟩
abbrev S64x16x1x196 : Shape := ⟨4, ![64, 16, 1, 196]⟩
abbrev S64x16x25x196x1 : Shape := ⟨5, ![64, 16, 25, 196, 1]⟩
abbrev S25 : Shape := ⟨1, ![25]⟩
abbrev S1x1x1x1x25 : Shape := ⟨5, ![1, 1, 1, 1, 25]⟩
abbrev S64x16x25x196x25 : Shape := ⟨5, ![64, 16, 25, 196, 25]⟩
abbrev S64x16x196x25 : Shape := ⟨4, ![64, 16, 196, 25]⟩
abbrev S64x16 : Shape := ⟨2, ![64, 16]⟩
abbrev S64x16x1x1 : Shape := ⟨4, ![64, 16, 1, 1]⟩
abbrev S64x16x20x20 : Shape := ⟨4, ![64, 16, 20, 20]⟩
abbrev S32x16x9 : Shape := ⟨3, ![32, 16, 9]⟩
abbrev S64x16x18x20 : Shape := ⟨4, ![64, 16, 18, 20]⟩
abbrev S64x16x1x18x20 : Shape := ⟨5, ![64, 16, 1, 18, 20]⟩
abbrev S64x16x3x18x20 : Shape := ⟨5, ![64, 16, 3, 18, 20]⟩
abbrev S64x16x3x18x18 : Shape := ⟨5, ![64, 16, 3, 18, 18]⟩
abbrev S64x16x3x1x18x18 : Shape := ⟨6, ![64, 16, 3, 1, 18, 18]⟩
abbrev S64x16x3x3x18x18 : Shape := ⟨6, ![64, 16, 3, 3, 18, 18]⟩
abbrev S64x16x9x18x18 : Shape := ⟨5, ![64, 16, 9, 18, 18]⟩
abbrev S64x18x18x32 : Shape := ⟨4, ![64, 18, 18, 32]⟩
abbrev S64x32x18x18 : Shape := ⟨4, ![64, 32, 18, 18]⟩
abbrev S1x32x1x1 : Shape := ⟨4, ![1, 32, 1, 1]⟩
abbrev S64x32x14x18 : Shape := ⟨4, ![64, 32, 14, 18]⟩
abbrev S64x32x1x14x18 : Shape := ⟨5, ![64, 32, 1, 14, 18]⟩
abbrev S64x32x5x14x18 : Shape := ⟨5, ![64, 32, 5, 14, 18]⟩
abbrev S64x32x5x14x14 : Shape := ⟨5, ![64, 32, 5, 14, 14]⟩
abbrev S64x32x5x1x14x14 : Shape := ⟨6, ![64, 32, 5, 1, 14, 14]⟩
abbrev S64x32x5x5x14x14 : Shape := ⟨6, ![64, 32, 5, 5, 14, 14]⟩
abbrev S64x32x25x14x14 : Shape := ⟨5, ![64, 32, 25, 14, 14]⟩
abbrev S64x32x25x196 : Shape := ⟨4, ![64, 32, 25, 196]⟩
abbrev S64x32x196 : Shape := ⟨3, ![64, 32, 196]⟩
abbrev S64x32x1x196 : Shape := ⟨4, ![64, 32, 1, 196]⟩
abbrev S64x32x25x196x1 : Shape := ⟨5, ![64, 32, 25, 196, 1]⟩
abbrev S64x32x25x196x25 : Shape := ⟨5, ![64, 32, 25, 196, 25]⟩
abbrev S64x32x196x25 : Shape := ⟨4, ![64, 32, 196, 25]⟩
abbrev S64x32 : Shape := ⟨2, ![64, 32]⟩
abbrev S64x32x1x1 : Shape := ⟨4, ![64, 32, 1, 1]⟩
abbrev S64x10368 : Shape := ⟨2, ![64, 10368]⟩
abbrev S1x10368 : Shape := ⟨2, ![1, 10368]⟩
abbrev S10368x32 : Shape := ⟨2, ![10368, 32]⟩
abbrev S1x32 : Shape := ⟨2, ![1, 32]⟩
abbrev S32x5 : Shape := ⟨2, ![32, 5]⟩
abbrev S64x5 : Shape := ⟨2, ![64, 5]⟩
abbrev S1x5 : Shape := ⟨2, ![1, 5]⟩
abbrev S64 : Shape := ⟨1, ![64]⟩
abbrev S64x1 : Shape := ⟨2, ![64, 1]⟩
abbrev S32x2 : Shape := ⟨2, ![32, 2]⟩
abbrev S64x2 : Shape := ⟨2, ![64, 2]⟩
abbrev S1x2 : Shape := ⟨2, ![1, 2]⟩

abbrev nBuf : Space → Nat
  | .hbm => 527
  | .vmem => 0
  | .smem => 0
  | _ => 0

abbrev hbmTy0_0 (i : Nat) : BufTy := match i % 128 with
  | 0 => ⟨S64x3x224x224, .f32⟩
  | 1 => ⟨S8x3x7x7, .f32⟩
  | 2 => ⟨S8, .f32⟩
  | 3 => ⟨S16x8x5x5, .f32⟩
  | 4 => ⟨S16, .f32⟩
  | 5 => ⟨S32x16x3x3, .f32⟩
  | 6 => ⟨S32, .f32⟩
  | 7 => ⟨S8, .f32⟩
  | 8 => ⟨S8, .f32⟩
  | 9 => ⟨S16, .f32⟩
  | 10 => ⟨S16, .f32⟩
  | 11 => ⟨S32, .f32⟩
  | 12 => ⟨S32, .f32⟩
  | 13 => ⟨S10368, .f32⟩
  | 14 => ⟨S10368, .f32⟩
  | 15 => ⟨S32x10368, .f32⟩
  | 16 => ⟨S32, .f32⟩
  | 17 => ⟨S5x32, .f32⟩
  | 18 => ⟨S5, .f32⟩
  | 19 => ⟨S2x32, .f32⟩
  | 20 => ⟨S2, .f32⟩
  | 21 => ⟨S_, .i32⟩
  | 22 => ⟨S_, .f32⟩
  | 23 => ⟨S64x3x228x228, .f32⟩
  | 24 => ⟨S8x3x49, .f32⟩
  | 25 => ⟨S64x3x56x228, .f32⟩
  | 26 => ⟨S64x3x56x228, .f32⟩
  | 27 => ⟨S64x3x56x228, .f32⟩
  | 28 => ⟨S64x3x56x228, .f32⟩
  | 29 => ⟨S64x3x56x228, .f32⟩
  | 30 => ⟨S64x3x56x228, .f32⟩
  | 31 => ⟨S64x3x56x228, .f32⟩
  | 32 => ⟨S64x3x1x56x228, .f32⟩
  | 33 => ⟨S64x3x1x56x228, .f32⟩
  | 34 => ⟨S64x3x1x56x228, .f32⟩
  | 35 => ⟨S64x3x1x56x228, .f32⟩
  | 36 => ⟨S64x3x1x56x228, .f32⟩
  | 37 => ⟨S64x3x1x56x228, .f32⟩
  | 38 => ⟨S64x3x1x56x228, .f32⟩
  | 39 => ⟨S64x3x7x56x228, .f32⟩
  | 40 => ⟨S64x3x7x56x56, .f32⟩
  | 41 => ⟨S64x3x7x56x56, .f32⟩
  | 42 => ⟨S64x3x7x56x56, .f32⟩
  | 43 => ⟨S64x3x7x56x56, .f32⟩
  | 44 => ⟨S64x3x7x56x56, .f32⟩
  | 45 => ⟨S64x3x7x56x56, .f32⟩
  | 46 => ⟨S64x3x7x56x56, .f32⟩
  | 47 => ⟨S64x3x7x1x56x56, .f32⟩
  | 48 => ⟨S64x3x7x1x56x56, .f32⟩
  | 49 => ⟨S64x3x7x1x56x56, .f32⟩
  | 50 => ⟨S64x3x7x1x56x56, .f32⟩
  | 51 => ⟨S64x3x7x1x56x56, .f32⟩
  | 52 => ⟨S64x3x7x1x56x56, .f32⟩
  | 53 => ⟨S64x3x7x1x56x56, .f32⟩
  | 54 => ⟨S64x3x7x7x56x56, .f32⟩
  | 55 => ⟨S64x3x49x56x56, .f32⟩
  | 56 => ⟨S64x56x56x8, .f32⟩
  | 57 => ⟨S64x8x56x56, .f32⟩
  | 58 => ⟨S1x8x1x1, .f32⟩
  | 59 => ⟨S64x8x56x56, .f32⟩
  | 60 => ⟨S64x8x56x56, .f32⟩
  | 61 => ⟨S_, .f32⟩
  | 62 => ⟨S64x8, .f32⟩
  | 63 => ⟨S64x8x1x1, .f32⟩
  | 64 => ⟨S_, .f32⟩
  | 65 => ⟨S64x8x1x1, .f32⟩
  | 66 => ⟨S64x8x1x1, .f32⟩
  | 67 => ⟨S_, .i32⟩
  | 68 => ⟨S_, .f32⟩
  | 69 => ⟨S64x8, .f32⟩
  | 70 => ⟨S64x8x1x1, .f32⟩
  | 71 => ⟨S_, .f32⟩
  | 72 => ⟨S64x8x1x1, .f32⟩
  | 73 => ⟨S64x8x1x1, .f32⟩
  | 74 => ⟨S64x8x56x56, .f32⟩
  | 75 => ⟨S64x8x56x56, .f32⟩
  | 76 => ⟨S64x8x56x56, .f32⟩
  | 77 => ⟨S_, .f32⟩
  | 78 => ⟨S_, .f32⟩
  | 79 => ⟨S_, .f32⟩
  | 80 => ⟨S_, .f32⟩
  | 81 => ⟨S64x8, .f32⟩
  | 82 => ⟨S64x8x1x1, .f32⟩
  | 83 => ⟨S64x8x1x1, .f32⟩
  | 84 => ⟨S64x8x1x1, .f32⟩
  | 85 => ⟨S_, .f32⟩
  | 86 => ⟨S_, .i1⟩
  | 87 => ⟨S_, .f32⟩
  | 88 => ⟨S_, .f32⟩
  | 89 => ⟨S64x8x1x1, .f32⟩
  | 90 => ⟨S64x8x1x1, .f32⟩
  | 91 => ⟨S64x8x56x56, .f32⟩
  | 92 => ⟨S64x8x56x56, .f32⟩
  | 93 => ⟨S_, .f32⟩
  | 94 => ⟨S64x8x1x1, .f32⟩
  | 95 => ⟨S64x8x1x1, .f32⟩
  | 96 => ⟨S64x8x1x1, .f32⟩
  | 97 => ⟨S64x8x56x56, .f32⟩
  | 98 => ⟨S64x8x56x56, .f32⟩
  | 99 => ⟨S1x8x1x1, .f32⟩
  | 100 => ⟨S64x8x56x56, .f32⟩
  | 101 => ⟨S64x8x56x56, .f32⟩
  | 102 => ⟨S1x8x1x1, .f32⟩
  | 103 => ⟨S64x8x56x56, .f32⟩
  | 104 => ⟨S64x8x56x56, .f32⟩
  | 105 => ⟨S_, .f32⟩
  | 106 => ⟨S64x8x56x56, .f32⟩
  | 107 => ⟨S64x8x56x56, .f32⟩
  | 108 => ⟨S_, .i32⟩
  | 109 => ⟨S_, .f32⟩
  | 110 => ⟨S64x8x58x58, .f32⟩
  | 111 => ⟨S16x8x25, .f32⟩
  | 112 => ⟨S64x8x18x58, .f32⟩
  | 113 => ⟨S64x8x18x58, .f32⟩
  | 114 => ⟨S64x8x18x58, .f32⟩
  | 115 => ⟨S64x8x18x58, .f32⟩
  | 116 => ⟨S64x8x18x58, .f32⟩
  | 117 => ⟨S64x8x1x18x58, .f32⟩
  | 118 => ⟨S64x8x1x18x58, .f32⟩
  | 119 => ⟨S64x8x1x18x58, .f32⟩
  | 120 => ⟨S64x8x1x18x58, .f32⟩
  | 121 => ⟨S64x8x1x18x58, .f32⟩
  | 122 => ⟨S64x8x5x18x58, .f32⟩
  | 123 => ⟨S64x8x5x18x18, .f32⟩
  | 124 => ⟨S64x8x5x18x18, .f32⟩
  | 125 => ⟨S64x8x5x18x18, .f32⟩
  | 126 => ⟨S64x8x5x18x18, .f32⟩
  | 127 => ⟨S64x8x5x18x18, .f32⟩
  | _ => ⟨S64x3x224x224, .f32⟩

abbrev hbmTy0_1 (i : Nat) : BufTy := match i % 128 with
  | 0 => ⟨S64x8x5x1x18x18, .f32⟩
  | 1 => ⟨S64x8x5x1x18x18, .f32⟩
  | 2 => ⟨S64x8x5x1x18x18, .f32⟩
  | 3 => ⟨S64x8x5x1x18x18, .f32⟩
  | 4 => ⟨S64x8x5x1x18x18, .f32⟩
  | 5 => ⟨S64x8x5x5x18x18, .f32⟩
  | 6 => ⟨S64x8x25x18x18, .f32⟩
  | 7 => ⟨S64x18x18x16, .f32⟩
  | 8 => ⟨S64x16x18x18, .f32⟩
  | 9 => ⟨S1x16x1x1, .f32⟩
  | 10 => ⟨S64x16x18x18, .f32⟩
  | 11 => ⟨S64x16x18x18, .f32⟩
  | 12 => ⟨S64x16x14x18, .f32⟩
  | 13 => ⟨S64x16x14x18, .f32⟩
  | 14 => ⟨S64x16x14x18, .f32⟩
  | 15 => ⟨S64x16x14x18, .f32⟩
  | 16 => ⟨S64x16x14x18, .f32⟩
  | 17 => ⟨S64x16x1x14x18, .f32⟩
  | 18 => ⟨S64x16x1x14x18, .f32⟩
  | 19 => ⟨S64x16x1x14x18, .f32⟩
  | 20 => ⟨S64x16x1x14x18, .f32⟩
  | 21 => ⟨S64x16x1x14x18, .f32⟩
  | 22 => ⟨S64x16x5x14x18, .f32⟩
  | 23 => ⟨S64x16x5x14x14, .f32⟩
  | 24 => ⟨S64x16x5x14x14, .f32⟩
  | 25 => ⟨S64x16x5x14x14, .f32⟩
  | 26 => ⟨S64x16x5x14x14, .f32⟩
  | 27 => ⟨S64x16x5x14x14, .f32⟩
  | 28 => ⟨S64x16x5x1x14x14, .f32⟩
  | 29 => ⟨S64x16x5x1x14x14, .f32⟩
  | 30 => ⟨S64x16x5x1x14x14, .f32⟩
  | 31 => ⟨S64x16x5x1x14x14, .f32⟩
  | 32 => ⟨S64x16x5x1x14x14, .f32⟩
  | 33 => ⟨S64x16x5x5x14x14, .f32⟩
  | 34 => ⟨S64x16x25x14x14, .f32⟩
  | 35 => ⟨S64x16x25x196, .f32⟩
  | 36 => ⟨S_, .f32⟩
  | 37 => ⟨S64x16x196, .f32⟩
  | 38 => ⟨S64x16x1x196, .f32⟩
  | 39 => ⟨S_, .f32⟩
  | 40 => ⟨S64x16x196, .f32⟩
  | 41 => ⟨S64x16x1x196, .f32⟩
  | 42 => ⟨S64x16x1x196, .i1⟩
  | 43 => ⟨S64x16x1x196, .f32⟩
  | 44 => ⟨S_, .f32⟩
  | 45 => ⟨S64x16x1x196, .f32⟩
  | 46 => ⟨S64x16x1x196, .f32⟩
  | 47 => ⟨S64x16x25x196, .f32⟩
  | 48 => ⟨S64x16x25x196, .f32⟩
  | 49 => ⟨S64x16x25x196, .f32⟩
  | 50 => ⟨S64x16x25x196, .f32⟩
  | 51 => ⟨S_, .f32⟩
  | 52 => ⟨S64x16x25x196, .f32⟩
  | 53 => ⟨S64x16x25x196, .f32⟩
  | 54 => ⟨S64x16x25x196, .f32⟩
  | 55 => ⟨S_, .i32⟩
  | 56 => ⟨S_, .i32⟩
  | 57 => ⟨S_, .f32⟩
  | 58 => ⟨S64x16x25x196, .f32⟩
  | 59 => ⟨S64x16x25x196, .f32⟩
  | 60 => ⟨S_, .f32⟩
  | 61 => ⟨S64x16x25x196, .f32⟩
  | 62 => ⟨S64x16x25x196, .f32⟩
  | 63 => ⟨S64x16x25x196, .i32⟩
  | 64 => ⟨S64x16x25x196x1, .i32⟩
  | 65 => ⟨S25, .i32⟩
  | 66 => ⟨S1x1x1x1x25, .i32⟩
  | 67 => ⟨S64x16x25x196x25, .i32⟩
  | 68 => ⟨S64x16x25x196x25, .i32⟩
  | 69 => ⟨S64x16x25x196x25, .i1⟩
  | 70 => ⟨S64x16x25x196x25, .i32⟩
  | 71 => ⟨S_, .i32⟩
  | 72 => ⟨S64x16x196x25, .i32⟩
  | 73 => ⟨S64x16x196x25, .f32⟩
  | 74 => ⟨S_, .f32⟩
  | 75 => ⟨S64x16x196x25, .f32⟩
  | 76 => ⟨S64x16x196x25, .f32⟩
  | 77 => ⟨S64x16x196x25, .f32⟩
  | 78 => ⟨S_, .f32⟩
  | 79 => ⟨S_, .f32⟩
  | 80 => ⟨S_, .f32⟩
  | 81 => ⟨S64x16x196x25, .f32⟩
  | 82 => ⟨S64x16x196x25, .f32⟩
  | 83 => ⟨S_, .f32⟩
  | 84 => ⟨S64x16x196x25, .f32⟩
  | 85 => ⟨S64x16x196x25, .f32⟩
  | 86 => ⟨S64x16x196x25, .f32⟩
  | 87 => ⟨S64x16x196x25, .f32⟩
  | 88 => ⟨S_, .f32⟩
  | 89 => ⟨S64x16x196, .f32⟩
  | 90 => ⟨S_, .f32⟩
  | 91 => ⟨S64x16, .f32⟩
  | 92 => ⟨S_, .f32⟩
  | 93 => ⟨S64x16, .f32⟩
  | 94 => ⟨S64x16, .f32⟩
  | 95 => ⟨S64x16x1x1, .f32⟩
  | 96 => ⟨S_, .f32⟩
  | 97 => ⟨S64x16, .f32⟩
  | 98 => ⟨S64x16x1x1, .f32⟩
  | 99 => ⟨S_, .f32⟩
  | 100 => ⟨S64x16x1x1, .f32⟩
  | 101 => ⟨S64x16x1x1, .f32⟩
  | 102 => ⟨S_, .i32⟩
  | 103 => ⟨S_, .f32⟩
  | 104 => ⟨S64x16, .f32⟩
  | 105 => ⟨S64x16x1x1, .f32⟩
  | 106 => ⟨S_, .f32⟩
  | 107 => ⟨S64x16x1x1, .f32⟩
  | 108 => ⟨S64x16x1x1, .f32⟩
  | 109 => ⟨S64x16x18x18, .f32⟩
  | 110 => ⟨S64x16x18x18, .f32⟩
  | 111 => ⟨S64x16x18x18, .f32⟩
  | 112 => ⟨S_, .f32⟩
  | 113 => ⟨S_, .f32⟩
  | 114 => ⟨S_, .f32⟩
  | 115 => ⟨S_, .f32⟩
  | 116 => ⟨S64x16, .f32⟩
  | 117 => ⟨S64x16x1x1, .f32⟩
  | 118 => ⟨S64x16x1x1, .f32⟩
  | 119 => ⟨S64x16x1x1, .f32⟩
  | 120 => ⟨S_, .f32⟩
  | 121 => ⟨S_, .i1⟩
  | 122 => ⟨S_, .f32⟩
  | 123 => ⟨S_, .f32⟩
  | 124 => ⟨S64x16x1x1, .f32⟩
  | 125 => ⟨S64x16x1x1, .f32⟩
  | 126 => ⟨S_, .f32⟩
  | 127 => ⟨S64x16x1x1, .f32⟩
  | _ => ⟨S64x3x224x224, .f32⟩

abbrev hbmTy0_2 (i : Nat) : BufTy := match i % 128 with
  | 0 => ⟨S64x16x1x1, .f32⟩
  | 1 => ⟨S64x16x18x18, .f32⟩
  | 2 => ⟨S64x16x18x18, .f32⟩
  | 3 => ⟨S_, .f32⟩
  | 4 => ⟨S64x16x1x1, .f32⟩
  | 5 => ⟨S64x16x1x1, .f32⟩
  | 6 => ⟨S64x16x1x1, .f32⟩
  | 7 => ⟨S64x16x18x18, .f32⟩
  | 8 => ⟨S64x16x18x18, .f32⟩
  | 9 => ⟨S1x16x1x1, .f32⟩
  | 10 => ⟨S64x16x18x18, .f32⟩
  | 11 => ⟨S64x16x18x18, .f32⟩
  | 12 => ⟨S64x16x18x18, .f32⟩
  | 13 => ⟨S64x16x18x18, .f32⟩
  | 14 => ⟨S1x16x1x1, .f32⟩
  | 15 => ⟨S64x16x18x18, .f32⟩
  | 16 => ⟨S64x16x18x18, .f32⟩
  | 17 => ⟨S_, .f32⟩
  | 18 => ⟨S64x16x18x18, .f32⟩
  | 19 => ⟨S64x16x18x18, .f32⟩
  | 20 => ⟨S_, .i32⟩
  | 21 => ⟨S_, .f32⟩
  | 22 => ⟨S64x16x20x20, .f32⟩
  | 23 => ⟨S32x16x9, .f32⟩
  | 24 => ⟨S64x16x18x20, .f32⟩
  | 25 => ⟨S64x16x18x20, .f32⟩
  | 26 => ⟨S64x16x18x20, .f32⟩
  | 27 => ⟨S64x16x1x18x20, .f32⟩
  | 28 => ⟨S64x16x1x18x20, .f32⟩
  | 29 => ⟨S64x16x1x18x20, .f32⟩
  | 30 => ⟨S64x16x3x18x20, .f32⟩
  | 31 => ⟨S64x16x3x18x18, .f32⟩
  | 32 => ⟨S64x16x3x18x18, .f32⟩
  | 33 => ⟨S64x16x3x18x18, .f32⟩
  | 34 => ⟨S64x16x3x1x18x18, .f32⟩
  | 35 => ⟨S64x16x3x1x18x18, .f32⟩
  | 36 => ⟨S64x16x3x1x18x18, .f32⟩
  | 37 => ⟨S64x16x3x3x18x18, .f32⟩
  | 38 => ⟨S64x16x9x18x18, .f32⟩
  | 39 => ⟨S64x18x18x32, .f32⟩
  | 40 => ⟨S64x32x18x18, .f32⟩
  | 41 => ⟨S1x32x1x1, .f32⟩
  | 42 => ⟨S64x32x18x18, .f32⟩
  | 43 => ⟨S64x32x18x18, .f32⟩
  | 44 => ⟨S64x32x14x18, .f32⟩
  | 45 => ⟨S64x32x14x18, .f32⟩
  | 46 => ⟨S64x32x14x18, .f32⟩
  | 47 => ⟨S64x32x14x18, .f32⟩
  | 48 => ⟨S64x32x14x18, .f32⟩
  | 49 => ⟨S64x32x1x14x18, .f32⟩
  | 50 => ⟨S64x32x1x14x18, .f32⟩
  | 51 => ⟨S64x32x1x14x18, .f32⟩
  | 52 => ⟨S64x32x1x14x18, .f32⟩
  | 53 => ⟨S64x32x1x14x18, .f32⟩
  | 54 => ⟨S64x32x5x14x18, .f32⟩
  | 55 => ⟨S64x32x5x14x14, .f32⟩
  | 56 => ⟨S64x32x5x14x14, .f32⟩
  | 57 => ⟨S64x32x5x14x14, .f32⟩
  | 58 => ⟨S64x32x5x14x14, .f32⟩
  | 59 => ⟨S64x32x5x14x14, .f32⟩
  | 60 => ⟨S64x32x5x1x14x14, .f32⟩
  | 61 => ⟨S64x32x5x1x14x14, .f32⟩
  | 62 => ⟨S64x32x5x1x14x14, .f32⟩
  | 63 => ⟨S64x32x5x1x14x14, .f32⟩
  | 64 => ⟨S64x32x5x1x14x14, .f32⟩
  | 65 => ⟨S64x32x5x5x14x14, .f32⟩
  | 66 => ⟨S64x32x25x14x14, .f32⟩
  | 67 => ⟨S64x32x25x196, .f32⟩
  | 68 => ⟨S_, .f32⟩
  | 69 => ⟨S64x32x196, .f32⟩
  | 70 => ⟨S64x32x1x196, .f32⟩
  | 71 => ⟨S_, .f32⟩
  | 72 => ⟨S64x32x196, .f32⟩
  | 73 => ⟨S64x32x1x196, .f32⟩
  | 74 => ⟨S64x32x1x196, .i1⟩
  | 75 => ⟨S64x32x1x196, .f32⟩
  | 76 => ⟨S_, .f32⟩
  | 77 => ⟨S64x32x1x196, .f32⟩
  | 78 => ⟨S64x32x1x196, .f32⟩
  | 79 => ⟨S64x32x25x196, .f32⟩
  | 80 => ⟨S64x32x25x196, .f32⟩
  | 81 => ⟨S64x32x25x196, .f32⟩
  | 82 => ⟨S64x32x25x196, .f32⟩
  | 83 => ⟨S_, .f32⟩
  | 84 => ⟨S64x32x25x196, .f32⟩
  | 85 => ⟨S64x32x25x196, .f32⟩
  | 86 => ⟨S64x32x25x196, .f32⟩
  | 87 => ⟨S_, .i32⟩
  | 88 => ⟨S_, .i32⟩
  | 89 => ⟨S_, .f32⟩
  | 90 => ⟨S64x32x25x196, .f32⟩
  | 91 => ⟨S64x32x25x196, .f32⟩
  | 92 => ⟨S_, .f32⟩
  | 93 => ⟨S64x32x25x196, .f32⟩
  | 94 => ⟨S64x32x25x196, .f32⟩
  | 95 => ⟨S64x32x25x196, .i32⟩
  | 96 => ⟨S64x32x25x196x1, .i32⟩
  | 97 => ⟨S25, .i32⟩
  | 98 => ⟨S1x1x1x1x25, .i32⟩
  | 99 => ⟨S64x32x25x196x25, .i32⟩
  | 100 => ⟨S64x32x25x196x25, .i32⟩
  | 101 => ⟨S64x32x25x196x25, .i1⟩
  | 102 => ⟨S64x32x25x196x25, .i32⟩
  | 103 => ⟨S_, .i32⟩
  | 104 => ⟨S64x32x196x25, .i32⟩
  | 105 => ⟨S64x32x196x25, .f32⟩
  | 106 => ⟨S_, .f32⟩
  | 107 => ⟨S64x32x196x25, .f32⟩
  | 108 => ⟨S64x32x196x25, .f32⟩
  | 109 => ⟨S64x32x196x25, .f32⟩
  | 110 => ⟨S_, .f32⟩
  | 111 => ⟨S_, .f32⟩
  | 112 => ⟨S_, .f32⟩
  | 113 => ⟨S64x32x196x25, .f32⟩
  | 114 => ⟨S64x32x196x25, .f32⟩
  | 115 => ⟨S_, .f32⟩
  | 116 => ⟨S64x32x196x25, .f32⟩
  | 117 => ⟨S64x32x196x25, .f32⟩
  | 118 => ⟨S64x32x196x25, .f32⟩
  | 119 => ⟨S64x32x196x25, .f32⟩
  | 120 => ⟨S_, .f32⟩
  | 121 => ⟨S64x32x196, .f32⟩
  | 122 => ⟨S_, .f32⟩
  | 123 => ⟨S64x32, .f32⟩
  | 124 => ⟨S_, .f32⟩
  | 125 => ⟨S64x32, .f32⟩
  | 126 => ⟨S64x32, .f32⟩
  | 127 => ⟨S64x32x1x1, .f32⟩
  | _ => ⟨S64x3x224x224, .f32⟩

abbrev hbmTy0_3 (i : Nat) : BufTy := match i % 128 with
  | 0 => ⟨S_, .f32⟩
  | 1 => ⟨S64x32, .f32⟩
  | 2 => ⟨S64x32x1x1, .f32⟩
  | 3 => ⟨S_, .f32⟩
  | 4 => ⟨S64x32x1x1, .f32⟩
  | 5 => ⟨S64x32x1x1, .f32⟩
  | 6 => ⟨S_, .i32⟩
  | 7 => ⟨S_, .f32⟩
  | 8 => ⟨S64x32, .f32⟩
  | 9 => ⟨S64x32x1x1, .f32⟩
  | 10 => ⟨S_, .f32⟩
  | 11 => ⟨S64x32x1x1, .f32⟩
  | 12 => ⟨S64x32x1x1, .f32⟩
  | 13 => ⟨S64x32x18x18, .f32⟩
  | 14 => ⟨S64x32x18x18, .f32⟩
  | 15 => ⟨S64x32x18x18, .f32⟩
  | 16 => ⟨S_, .f32⟩
  | 17 => ⟨S_, .f32⟩
  | 18 => ⟨S_, .f32⟩
  | 19 => ⟨S_, .f32⟩
  | 20 => ⟨S64x32, .f32⟩
  | 21 => ⟨S64x32x1x1, .f32⟩
  | 22 => ⟨S64x32x1x1, .f32⟩
  | 23 => ⟨S64x32x1x1, .f32⟩
  | 24 => ⟨S_, .f32⟩
  | 25 => ⟨S_, .i1⟩
  | 26 => ⟨S_, .f32⟩
  | 27 => ⟨S_, .f32⟩
  | 28 => ⟨S64x32x1x1, .f32⟩
  | 29 => ⟨S64x32x1x1, .f32⟩
  | 30 => ⟨S_, .f32⟩
  | 31 => ⟨S64x32x1x1, .f32⟩
  | 32 => ⟨S64x32x1x1, .f32⟩
  | 33 => ⟨S64x32x18x18, .f32⟩
  | 34 => ⟨S64x32x18x18, .f32⟩
  | 35 => ⟨S_, .f32⟩
  | 36 => ⟨S64x32x1x1, .f32⟩
  | 37 => ⟨S64x32x1x1, .f32⟩
  | 38 => ⟨S64x32x1x1, .f32⟩
  | 39 => ⟨S64x32x18x18, .f32⟩
  | 40 => ⟨S64x32x18x18, .f32⟩
  | 41 => ⟨S1x32x1x1, .f32⟩
  | 42 => ⟨S64x32x18x18, .f32⟩
  | 43 => ⟨S64x32x18x18, .f32⟩
  | 44 => ⟨S64x32x18x18, .f32⟩
  | 45 => ⟨S64x32x18x18, .f32⟩
  | 46 => ⟨S1x32x1x1, .f32⟩
  | 47 => ⟨S64x32x18x18, .f32⟩
  | 48 => ⟨S64x32x18x18, .f32⟩
  | 49 => ⟨S_, .f32⟩
  | 50 => ⟨S64x32x18x18, .f32⟩
  | 51 => ⟨S64x32x18x18, .f32⟩
  | 52 => ⟨S64x10368, .f32⟩
  | 53 => ⟨S_, .f32⟩
  | 54 => ⟨S10368, .f32⟩
  | 55 => ⟨S_, .f32⟩
  | 56 => ⟨S10368, .f32⟩
  | 57 => ⟨S10368, .f32⟩
  | 58 => ⟨S_, .i32⟩
  | 59 => ⟨S_, .f32⟩
  | 60 => ⟨S10368, .f32⟩
  | 61 => ⟨S1x10368, .f32⟩
  | 62 => ⟨S_, .f32⟩
  | 63 => ⟨S1x10368, .f32⟩
  | 64 => ⟨S1x10368, .f32⟩
  | 65 => ⟨S64x10368, .f32⟩
  | 66 => ⟨S64x10368, .f32⟩
  | 67 => ⟨S64x10368, .f32⟩
  | 68 => ⟨S_, .f32⟩
  | 69 => ⟨S_, .f32⟩
  | 70 => ⟨S_, .f32⟩
  | 71 => ⟨S_, .f32⟩
  | 72 => ⟨S10368, .f32⟩
  | 73 => ⟨S10368, .f32⟩
  | 74 => ⟨S10368, .f32⟩
  | 75 => ⟨S_, .f32⟩
  | 76 => ⟨S_, .i1⟩
  | 77 => ⟨S_, .f32⟩
  | 78 => ⟨S_, .f32⟩
  | 79 => ⟨S10368, .f32⟩
  | 80 => ⟨S10368, .f32⟩
  | 81 => ⟨S1x10368, .f32⟩
  | 82 => ⟨S64x10368, .f32⟩
  | 83 => ⟨S64x10368, .f32⟩
  | 84 => ⟨S_, .f32⟩
  | 85 => ⟨S10368, .f32⟩
  | 86 => ⟨S10368, .f32⟩
  | 87 => ⟨S10368, .f32⟩
  | 88 => ⟨S1x10368, .f32⟩
  | 89 => ⟨S64x10368, .f32⟩
  | 90 => ⟨S64x10368, .f32⟩
  | 91 => ⟨S1x10368, .f32⟩
  | 92 => ⟨S64x10368, .f32⟩
  | 93 => ⟨S64x10368, .f32⟩
  | 94 => ⟨S1x10368, .f32⟩
  | 95 => ⟨S64x10368, .f32⟩
  | 96 => ⟨S64x10368, .f32⟩
  | 97 => ⟨S10368x32, .f32⟩
  | 98 => ⟨S64x32, .f32⟩
  | 99 => ⟨S1x32, .f32⟩
  | 100 => ⟨S64x32, .f32⟩
  | 101 => ⟨S64x32, .f32⟩
  | 102 => ⟨S_, .f32⟩
  | 103 => ⟨S64x32, .f32⟩
  | 104 => ⟨S64x32, .f32⟩
  | 105 => ⟨S32x5, .f32⟩
  | 106 => ⟨S64x5, .f32⟩
  | 107 => ⟨S1x5, .f32⟩
  | 108 => ⟨S64x5, .f32⟩
  | 109 => ⟨S64x5, .f32⟩
  | 110 => ⟨S_, .f32⟩
  | 111 => ⟨S64, .f32⟩
  | 112 => ⟨S_, .f32⟩
  | 113 => ⟨S64, .f32⟩
  | 114 => ⟨S64, .f32⟩
  | 115 => ⟨S64x1, .f32⟩
  | 116 => ⟨S64x5, .f32⟩
  | 117 => ⟨S64x5, .f32⟩
  | 118 => ⟨S64x5, .f32⟩
  | 119 => ⟨S_, .f32⟩
  | 120 => ⟨S64, .f32⟩
  | 121 => ⟨S64x1, .f32⟩
  | 122 => ⟨S64x5, .f32⟩
  | 123 => ⟨S64x5, .f32⟩
  | 124 => ⟨S32x2, .f32⟩
  | 125 => ⟨S64x2, .f32⟩
  | 126 => ⟨S1x2, .f32⟩
  | 127 => ⟨S64x2, .f32⟩
  | _ => ⟨S64x3x224x224, .f32⟩

abbrev hbmTy0_4 (i : Nat) : BufTy := match i % 128 with
  | 0 => ⟨S64x2, .f32⟩
  | 1 => ⟨S_, .f32⟩
  | 2 => ⟨S64, .f32⟩
  | 3 => ⟨S_, .f32⟩
  | 4 => ⟨S64, .f32⟩
  | 5 => ⟨S64, .f32⟩
  | 6 => ⟨S64x1, .f32⟩
  | 7 => ⟨S64x2, .f32⟩
  | 8 => ⟨S64x2, .f32⟩
  | 9 => ⟨S64x2, .f32⟩
  | 10 => ⟨S_, .f32⟩
  | 11 => ⟨S64, .f32⟩
  | 12 => ⟨S64x1, .f32⟩
  | 13 => ⟨S64x2, .f32⟩
  | 14 => ⟨S64x2, .f32⟩
  | _ => ⟨S64x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x3x224x224, .f32⟩

abbrev bufTy : (tb : Table) → Fin (tcTables nBuf tb) → BufTy
  | .hbm, ⟨i, _⟩ => hbmTy i
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst : Ref sig .tc := ⟨.hbm, 61, rfl⟩
abbrev main_v38 : Ref sig .tc := ⟨.hbm, 62, rfl⟩
abbrev main_v39 : Ref sig .tc := ⟨.hbm, 63, rfl⟩
abbrev main_cst_0 : Ref sig .tc := ⟨.hbm, 64, rfl⟩
abbrev main_v40 : Ref sig .tc := ⟨.hbm, 65, rfl⟩
abbrev main_v41 : Ref sig .tc := ⟨.hbm, 66, rfl⟩
abbrev main_c_1 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_cst_3 : Ref sig .tc := ⟨.hbm, 85, rfl⟩
abbrev main_call1_v13 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_2 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_call2_cst : Ref sig .tc := ⟨.hbm, 105, rfl⟩
abbrev main_call2_v0 : Ref sig .tc := ⟨.hbm, 106, rfl⟩
abbrev main_v56 : Ref sig .tc := ⟨.hbm, 107, rfl⟩
abbrev main_c_3 : Ref sig .tc := ⟨.hbm, 108, rfl⟩
abbrev main_call3_v0 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_4 : Ref sig .tc := ⟨.hbm, 164, rfl⟩
abbrev main_v111 : Ref sig .tc := ⟨.hbm, 165, rfl⟩
abbrev main_v112 : Ref sig .tc := ⟨.hbm, 166, rfl⟩
abbrev main_cst_5 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_6 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_7 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_c_8 : Ref sig .tc := ⟨.hbm, 183, rfl⟩
abbrev main_c_9 : Ref sig .tc := ⟨.hbm, 184, rfl⟩
abbrev main_call5_v0 : Ref sig .tc := ⟨.hbm, 185, rfl⟩
abbrev main_call5_v1 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_c_10 : Ref sig .tc := ⟨.hbm, 199, rfl⟩
abbrev main_v135 : Ref sig .tc := ⟨.hbm, 200, rfl⟩
abbrev main_v136 : Ref sig .tc := ⟨.hbm, 201, rfl⟩
abbrev main_cst_11 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_cst_12 : Ref sig .tc := ⟨.hbm, 206, rfl⟩
abbrev main_cst_13 : Ref sig .tc := ⟨.hbm, 207, rfl⟩
abbrev main_call6_v0 : Ref sig .tc := ⟨.hbm, 208, rfl⟩
abbrev main_call6_v1 : Ref sig .tc := ⟨.hbm, 209, rfl⟩
abbrev main_call6_v2 : Ref sig .tc := ⟨.hbm, 210, rfl⟩
abbrev main_call6_v3 : Ref sig .tc := ⟨.hbm, 211, rfl⟩
abbrev main_call6_v4 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_14 : Ref sig .tc := ⟨.hbm, 216, rfl⟩
abbrev main_v143 : Ref sig .tc := ⟨.hbm, 217, rfl⟩
abbrev main_cst_15 : Ref sig .tc := ⟨.hbm, 218, rfl⟩
abbrev main_v144 : Ref sig .tc := ⟨.hbm, 219, rfl⟩
abbrev main_cst_16 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_cst_17 : Ref sig .tc := ⟨.hbm, 224, rfl⟩
abbrev main_v148 : Ref sig .tc := ⟨.hbm, 225, rfl⟩
abbrev main_v149 : Ref sig .tc := ⟨.hbm, 226, rfl⟩
abbrev main_cst_18 : Ref sig .tc := ⟨.hbm, 227, rfl⟩
abbrev main_v150 : Ref sig .tc := ⟨.hbm, 228, rfl⟩
abbrev main_v151 : Ref sig .tc := ⟨.hbm, 229, rfl⟩
abbrev main_c_19 : Ref sig .tc := ⟨.hbm, 230, rfl⟩
abbrev main_call7_cst : Ref sig .tc := ⟨.hbm, 231, rfl⟩
abbrev main_call7_v0 : Ref sig .tc := ⟨.hbm, 232, rfl⟩
abbrev main_call7_v1 : Ref sig .tc := ⟨.hbm, 233, rfl⟩
abbrev main_call7_cst_0 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_call7_v5 : Ref sig .tc := ⟨.hbm, 238, rfl⟩
abbrev main_call7_v6 : Ref sig .tc := ⟨.hbm, 239, rfl⟩
abbrev main_call7_v7 : Ref sig .tc := ⟨.hbm, 240, rfl⟩
abbrev main_call7_cst_1 : Ref sig .tc := ⟨.hbm, 241, rfl⟩
abbrev main_call7_v8 : Ref sig .tc := ⟨.hbm, 242, rfl⟩
abbrev main_call7_cst_2 : Ref sig .tc := ⟨.hbm, 243, rfl⟩
abbrev main_call7_v9 : Ref sig .tc := ⟨.hbm, 244, rfl⟩
abbrev main_call7_v10 : Ref sig .tc := ⟨.hbm, 245, rfl⟩
abbrev main_call7_v11 : Ref sig .tc := ⟨.hbm, 246, rfl⟩
abbrev main_call7_v12 : Ref sig .tc := ⟨.hbm, 247, rfl⟩
abbrev main_call7_cst_3 : Ref sig .tc := ⟨.hbm, 248, rfl⟩
abbrev main_call7_v13 : Ref sig .tc := ⟨.hbm, 249, rfl⟩
abbrev main_call7_cst_4 : Ref sig .tc := ⟨.hbm, 250, rfl⟩
abbrev main_call7_call0_v0 : Ref sig .tc := ⟨.hbm, 251, rfl⟩
abbrev main_call7_call0_v1 : Ref sig .tc := ⟨.hbm, 252, rfl⟩
abbrev main_v152 : Ref sig .tc := ⟨.hbm, 253, rfl⟩
abbrev main_cst_20 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_cst_21 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_call8_cst : Ref sig .tc := ⟨.hbm, 273, rfl⟩
abbrev main_call8_v0 : Ref sig .tc := ⟨.hbm, 274, rfl⟩
abbrev main_v170 : Ref sig .tc := ⟨.hbm, 275, rfl⟩
abbrev main_c_22 : Ref sig .tc := ⟨.hbm, 276, rfl⟩
abbrev main_call9_v0 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_v174 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_cst_23 : Ref sig .tc := ⟨.hbm, 324, rfl⟩
abbrev main_v217 : Ref sig .tc := ⟨.hbm, 325, rfl⟩
abbrev main_v218 : Ref sig .tc := ⟨.hbm, 326, rfl⟩
abbrev main_cst_24 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_cst_25 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_v228 : Ref sig .tc := ⟨.hbm, 338, rfl⟩
abbrev main_cst_26 : Ref sig .tc := ⟨.hbm, 339, rfl⟩
abbrev main_v229 : Ref sig .tc := ⟨.hbm, 340, rfl⟩
abbrev main_v230 : Ref sig .tc := ⟨.hbm, 341, rfl⟩
abbrev main_v231 : Ref sig .tc := ⟨.hbm, 342, rfl⟩
abbrev main_c_27 : Ref sig .tc := ⟨.hbm, 343, rfl⟩
abbrev main_c_28 : Ref sig .tc := ⟨.hbm, 344, rfl⟩
abbrev main_call11_v0 : Ref sig .tc := ⟨.hbm, 345, rfl⟩
abbrev main_call11_v1 : Ref sig .tc := ⟨.hbm, 346, rfl⟩
abbrev main_call11_v2 : Ref sig .tc := ⟨.hbm, 347, rfl⟩
abbrev main_call11_v3 : Ref sig .tc := ⟨.hbm, 348, rfl⟩
abbrev main_call11_v4 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_c_29 : Ref sig .tc := ⟨.hbm, 359, rfl⟩
abbrev main_v241 : Ref sig .tc := ⟨.hbm, 360, rfl⟩
abbrev main_v242 : Ref sig .tc := ⟨.hbm, 361, rfl⟩
abbrev main_cst_30 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_cst_31 : Ref sig .tc := ⟨.hbm, 366, rfl⟩
abbrev main_cst_32 : Ref sig .tc := ⟨.hbm, 367, rfl⟩
abbrev main_call12_v0 : Ref sig .tc := ⟨.hbm, 368, rfl⟩
abbrev main_call12_v1 : Ref sig .tc := ⟨.hbm, 369, rfl⟩
abbrev main_call12_v2 : Ref sig .tc := ⟨.hbm, 370, rfl⟩
abbrev main_call12_v3 : Ref sig .tc := ⟨.hbm, 371, rfl⟩
abbrev main_call12_v4 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_cst_33 : Ref sig .tc := ⟨.hbm, 376, rfl⟩
abbrev main_v249 : Ref sig .tc := ⟨.hbm, 377, rfl⟩
abbrev main_cst_34 : Ref sig .tc := ⟨.hbm, 378, rfl⟩
abbrev main_v250 : Ref sig .tc := ⟨.hbm, 379, rfl⟩
abbrev main_cst_35 : Ref sig .tc := ⟨.hbm, 380, rfl⟩
abbrev main_v251 : Ref sig .tc := ⟨.hbm, 381, rfl⟩
abbrev main_v252 : Ref sig .tc := ⟨.hbm, 382, rfl⟩
abbrev main_v253 : Ref sig .tc := ⟨.hbm, 383, rfl⟩
abbrev main_cst_36 : Ref sig .tc := ⟨.hbm, 384, rfl⟩
abbrev main_v254 : Ref sig .tc := ⟨.hbm, 385, rfl⟩
abbrev main_v255 : Ref sig .tc := ⟨.hbm, 386, rfl⟩
abbrev main_cst_37 : Ref sig .tc := ⟨.hbm, 387, rfl⟩
abbrev main_v256 : Ref sig .tc := ⟨.hbm, 388, rfl⟩
abbrev main_v257 : Ref sig .tc := ⟨.hbm, 389, rfl⟩
abbrev main_c_38 : Ref sig .tc := ⟨.hbm, 390, rfl⟩
abbrev main_call13_cst : Ref sig .tc := ⟨.hbm, 391, rfl⟩
abbrev main_call13_v0 : Ref sig .tc := ⟨.hbm, 392, rfl⟩
abbrev main_call13_v1 : Ref sig .tc := ⟨.hbm, 393, rfl⟩
abbrev main_call13_cst_0 : Ref sig .tc := ⟨.hbm, 394, rfl⟩
abbrev main_call13_v2 : Ref sig .tc := ⟨.hbm, 395, rfl⟩
abbrev main_call13_v3 : Ref sig .tc := ⟨.hbm, 396, rfl⟩
abbrev main_call13_v4 : Ref sig .tc := ⟨.hbm, 397, rfl⟩
abbrev main_call13_v5 : Ref sig .tc := ⟨.hbm, 398, rfl⟩
abbrev main_call13_v6 : Ref sig .tc := ⟨.hbm, 399, rfl⟩
abbrev main_call13_v7 : Ref sig .tc := ⟨.hbm, 400, rfl⟩
abbrev main_call13_cst_1 : Ref sig .tc := ⟨.hbm, 401, rfl⟩
abbrev main_call13_v8 : Ref sig .tc := ⟨.hbm, 402, rfl⟩
abbrev main_call13_cst_2 : Ref sig .tc := ⟨.hbm, 403, rfl⟩
abbrev main_call13_v9 : Ref sig .tc := ⟨.hbm, 404, rfl⟩
abbrev main_call13_v10 : Ref sig .tc := ⟨.hbm, 405, rfl⟩
abbrev main_call13_v11 : Ref sig .tc := ⟨.hbm, 406, rfl⟩
abbrev main_call13_v12 : Ref sig .tc := ⟨.hbm, 407, rfl⟩
abbrev main_call13_cst_3 : Ref sig .tc := ⟨.hbm, 408, rfl⟩
abbrev main_call13_v13 : Ref sig .tc := ⟨.hbm, 409, rfl⟩
abbrev main_call13_cst_4 : Ref sig .tc := ⟨.hbm, 410, rfl⟩
abbrev main_call13_call0_v0 : Ref sig .tc := ⟨.hbm, 411, rfl⟩
abbrev main_call13_call0_v1 : Ref sig .tc := ⟨.hbm, 412, rfl⟩
abbrev main_v258 : Ref sig .tc := ⟨.hbm, 413, rfl⟩
abbrev main_cst_39 : Ref sig .tc := ⟨.hbm, 414, rfl⟩
abbrev main_v259 : Ref sig .tc := ⟨.hbm, 415, rfl⟩
abbrev main_v260 : Ref sig .tc := ⟨.hbm, 416, rfl⟩
abbrev main_v261 : Ref sig .tc := ⟨.hbm, 417, rfl⟩
abbrev main_v262 : Ref sig .tc := ⟨.hbm, 418, rfl⟩
abbrev main_cst_40 : Ref sig .tc := ⟨.hbm, 419, rfl⟩
abbrev main_v263 : Ref sig .tc := ⟨.hbm, 420, rfl⟩
abbrev main_v264 : Ref sig .tc := ⟨.hbm, 421, rfl⟩
abbrev main_v265 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_v269 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_v274 : Ref sig .tc := ⟨.hbm, 431, rfl⟩
abbrev main_v275 : Ref sig .tc := ⟨.hbm, 432, rfl⟩
abbrev main_call14_cst : Ref sig .tc := ⟨.hbm, 433, rfl⟩
abbrev main_call14_v0 : Ref sig .tc := ⟨.hbm, 434, rfl⟩
abbrev main_v276 : Ref sig .tc := ⟨.hbm, 435, rfl⟩
abbrev main_v277 : Ref sig .tc := ⟨.hbm, 436, rfl⟩
abbrev main_cst_41 : Ref sig .tc := ⟨.hbm, 437, rfl⟩
abbrev main_v278 : Ref sig .tc := ⟨.hbm, 438, rfl⟩
abbrev main_cst_42 : Ref sig .tc := ⟨.hbm, 439, rfl⟩
abbrev main_v279 : Ref sig .tc := ⟨.hbm, 440, rfl⟩
abbrev main_v280 : Ref sig .tc := ⟨.hbm, 441, rfl⟩
abbrev main_c_43 : Ref sig .tc := ⟨.hbm, 442, rfl⟩
abbrev main_call15_cst : Ref sig .tc := ⟨.hbm, 443, rfl⟩
abbrev main_call15_v0 : Ref sig .tc := ⟨.hbm, 444, rfl⟩
abbrev main_call15_v1 : Ref sig .tc := ⟨.hbm, 445, rfl⟩
abbrev main_call15_cst_0 : Ref sig .tc := ⟨.hbm, 446, rfl⟩
abbrev main_call15_v2 : Ref sig .tc := ⟨.hbm, 447, rfl⟩
abbrev main_call15_v3 : Ref sig .tc := ⟨.hbm, 448, rfl⟩
abbrev main_call15_v4 : Ref sig .tc := ⟨.hbm, 449, rfl⟩
abbrev main_call15_v5 : Ref sig .tc := ⟨.hbm, 450, rfl⟩
abbrev main_call15_v6 : Ref sig .tc := ⟨.hbm, 451, rfl⟩
abbrev main_call15_v7 : Ref sig .tc := ⟨.hbm, 452, rfl⟩
abbrev main_call15_cst_1 : Ref sig .tc := ⟨.hbm, 453, rfl⟩
abbrev main_call15_v8 : Ref sig .tc := ⟨.hbm, 454, rfl⟩
abbrev main_call15_cst_2 : Ref sig .tc := ⟨.hbm, 455, rfl⟩
abbrev main_call15_v9 : Ref sig .tc := ⟨.hbm, 456, rfl⟩
abbrev main_call15_v10 : Ref sig .tc := ⟨.hbm, 457, rfl⟩
abbrev main_call15_v11 : Ref sig .tc := ⟨.hbm, 458, rfl⟩
abbrev main_call15_cst_3 : Ref sig .tc := ⟨.hbm, 459, rfl⟩
abbrev main_call15_v12 : Ref sig .tc := ⟨.hbm, 460, rfl⟩
abbrev main_call15_cst_4 : Ref sig .tc := ⟨.hbm, 461, rfl⟩
abbrev main_call15_call0_v0 : Ref sig .tc := ⟨.hbm, 462, rfl⟩
abbrev main_call15_call0_v1 : Ref sig .tc := ⟨.hbm, 463, rfl⟩
abbrev main_v281 : Ref sig .tc := ⟨.hbm, 464, rfl⟩
abbrev main_v282 : Ref sig .tc := ⟨.hbm, 465, rfl⟩
abbrev main_v283 : Ref sig .tc := ⟨.hbm, 466, rfl⟩
abbrev main_v284 : Ref sig .tc := ⟨.hbm, 467, rfl⟩
abbrev main_cst_44 : Ref sig .tc := ⟨.hbm, 468, rfl⟩
abbrev main_v285 : Ref sig .tc := ⟨.hbm, 469, rfl⟩
abbrev main_v286 : Ref sig .tc := ⟨.hbm, 470, rfl⟩
abbrev main_v287 : Ref sig .tc := ⟨.hbm, 471, rfl⟩
abbrev main_v288 : Ref sig .tc := ⟨.hbm, 472, rfl⟩
abbrev main_v289 : Ref sig .tc := ⟨.hbm, 473, rfl⟩
abbrev main_v290 : Ref sig .tc := ⟨.hbm, 474, rfl⟩
abbrev main_v291 : Ref sig .tc := ⟨.hbm, 475, rfl⟩
abbrev main_v292 : Ref sig .tc := ⟨.hbm, 476, rfl⟩
abbrev main_v293 : Ref sig .tc := ⟨.hbm, 477, rfl⟩
abbrev main_v294 : Ref sig .tc := ⟨.hbm, 478, rfl⟩
abbrev main_v295 : Ref sig .tc := ⟨.hbm, 479, rfl⟩
abbrev main_v296 : Ref sig .tc := ⟨.hbm, 480, rfl⟩
abbrev main_v297 : Ref sig .tc := ⟨.hbm, 481, rfl⟩
abbrev main_v298 : Ref sig .tc := ⟨.hbm, 482, rfl⟩
abbrev main_v299 : Ref sig .tc := ⟨.hbm, 483, rfl⟩
abbrev main_v300 : Ref sig .tc := ⟨.hbm, 484, rfl⟩
abbrev main_v301 : Ref sig .tc := ⟨.hbm, 485, rfl⟩
abbrev main_call16_cst : Ref sig .tc := ⟨.hbm, 486, rfl⟩
abbrev main_call16_v0 : Ref sig .tc := ⟨.hbm, 487, rfl⟩
abbrev main_v302 : Ref sig .tc := ⟨.hbm, 488, rfl⟩
abbrev main_v303 : Ref sig .tc := ⟨.hbm, 489, rfl⟩
abbrev main_v304 : Ref sig .tc := ⟨.hbm, 490, rfl⟩
abbrev main_v305 : Ref sig .tc := ⟨.hbm, 491, rfl⟩
abbrev main_v306 : Ref sig .tc := ⟨.hbm, 492, rfl⟩
abbrev main_v307 : Ref sig .tc := ⟨.hbm, 493, rfl⟩
abbrev main_cst_45 : Ref sig .tc := ⟨.hbm, 494, rfl⟩
abbrev main_v308 : Ref sig .tc := ⟨.hbm, 495, rfl⟩
abbrev main_cst_46 : Ref sig .tc := ⟨.hbm, 496, rfl⟩
abbrev main_v309 : Ref sig .tc := ⟨.hbm, 497, rfl⟩
abbrev main_v310 : Ref sig .tc := ⟨.hbm, 498, rfl⟩
abbrev main_v311 : Ref sig .tc := ⟨.hbm, 499, rfl⟩
abbrev main_v312 : Ref sig .tc := ⟨.hbm, 500, rfl⟩
abbrev main_v313 : Ref sig .tc := ⟨.hbm, 501, rfl⟩
abbrev main_v314 : Ref sig .tc := ⟨.hbm, 502, rfl⟩
abbrev main_cst_47 : Ref sig .tc := ⟨.hbm, 503, rfl⟩
abbrev main_v315 : Ref sig .tc := ⟨.hbm, 504, rfl⟩
abbrev main_v316 : Ref sig .tc := ⟨.hbm, 505, rfl⟩
abbrev main_v317 : Ref sig .tc := ⟨.hbm, 506, rfl⟩
abbrev main_v318 : Ref sig .tc := ⟨.hbm, 507, rfl⟩
abbrev main_v319 : Ref sig .tc := ⟨.hbm, 508, rfl⟩
abbrev main_v320 : Ref sig .tc := ⟨.hbm, 509, rfl⟩
abbrev main_v321 : Ref sig .tc := ⟨.hbm, 510, rfl⟩
abbrev main_v322 : Ref sig .tc := ⟨.hbm, 511, rfl⟩
abbrev main_v323 : Ref sig .tc := ⟨.hbm, 512, rfl⟩
abbrev main_cst_48 : Ref sig .tc := ⟨.hbm, 513, rfl⟩
abbrev main_v324 : Ref sig .tc := ⟨.hbm, 514, rfl⟩
abbrev main_cst_49 : Ref sig .tc := ⟨.hbm, 515, rfl⟩
abbrev main_v325 : Ref sig .tc := ⟨.hbm, 516, rfl⟩
abbrev main_v326 : Ref sig .tc := ⟨.hbm, 517, rfl⟩
abbrev main_v327 : Ref sig .tc := ⟨.hbm, 518, rfl⟩
abbrev main_v328 : Ref sig .tc := ⟨.hbm, 519, rfl⟩
abbrev main_v329 : Ref sig .tc := ⟨.hbm, 520, rfl⟩
abbrev main_v330 : Ref sig .tc := ⟨.hbm, 521, rfl⟩
abbrev main_cst_50 : Ref sig .tc := ⟨.hbm, 522, rfl⟩
abbrev main_v331 : Ref sig .tc := ⟨.hbm, 523, rfl⟩
abbrev main_v332 : Ref sig .tc := ⟨.hbm, 524, rfl⟩
abbrev main_v333 : Ref sig .tc := ⟨.hbm, 525, rfl⟩
abbrev main_v334 : Ref sig .tc := ⟨.hbm, 526, rfl⟩

abbrev nD : Nat := 1
abbrev τ : Topo := Topo.v7x

variable {F : FTy → Type} [FloatOps F]
-- ==== Proof.Scalars.lean ====
/-
  Facts about single extended reals that the two programs' expressions meet in: a quotient by a root against a product with
  the reciprocal root, a quotient taken before or after a product, the bin number a clipped floor gives as a float and as
  an integer, and the count of a bin as a sum of floats and as a sum of integers.
-/
module

public import Idealize.ShloMosaic.PureOps.Ideal
public import Idealize.ShloMosaic.PureOps.Ideal.Laws
public import Idealize.ShloMosaic.Lib.IndicatorCount
public import Idealize.ShloMosaic.Lib.IdealHost

@[expose] public section

noncomputable section

open Idealize.ShloMosaic

namespace Cert.Scalars

/-- A product with the reciprocal of a positive number's root is the quotient by the root. -/
theorem mul_rsqrt {z : EReal} (hz : 0 < z) (x : EReal) : x * Ideal.rsqrt z = Ideal.div x (Ideal.sqrt z) := by
  induction z using EReal.rec with
  | bot => simp at hz
  | top =>
    show x * 0 = Ideal.div x ⊤
    rw [Ideal.div, if_neg (by simp), EReal.inv_top]
  | coe r =>
    have hr : 0 < r := by exact_mod_cast hz
    have hs : Real.sqrt r ≠ 0 := (Real.sqrt_pos.mpr hr).ne'
    have e1 : Ideal.rsqrt (r : EReal) = ((Real.sqrt r)⁻¹ : ℝ) := by
      show (if r < 0 then (⊥ : EReal) else if r = 0 then ⊤ else (((Real.sqrt r)⁻¹ : ℝ) : EReal)) = _
      rw [if_neg hr.le.not_gt, if_neg hr.ne']
    have e2 : Ideal.sqrt (r : EReal) = (Real.sqrt r : ℝ) := by
      show (if r < 0 then (⊥ : EReal) else ((Real.sqrt r : ℝ) : EReal)) = _
      rw [if_neg hr.le.not_gt]
    rw [e1, e2, Ideal.div_coe hs, one_div]

/-- A square is nonnegative on the extended reals. -/
theorem mul_self_nonneg (x : EReal) : 0 ≤ x * x := by
  induction x using EReal.rec with
  | bot => simp
  | top => simp
  | coe r => exact_mod_cast _root_.mul_self_nonneg r

/-- A quotient of a nonnegative number by a positive real is nonnegative. -/
theorem div_nonneg {x : EReal} (hx : 0 ≤ x) {n : ℝ} (hn : 0 < n) : 0 ≤ Ideal.div x (n : EReal) := by
  rw [Ideal.div_coe hn.ne']
  exact mul_nonneg hx (by exact_mod_cast (one_div_pos.mpr hn).le)

/-- A nonnegative number plus a positive real is positive. -/
theorem add_pos_coe {x : EReal} (hx : 0 ≤ x) {e : ℝ} (he : 0 < e) : 0 < x + (e : EReal) :=
  lt_of_lt_of_le (by exact_mod_cast he : (0 : EReal) < (e : EReal)) (le_add_of_nonneg_left hx)

/-- Dividing by a nonzero number and then scaling is multiplying by the scale's quotient. -/
theorem mul_div_comm {r : EReal} (hr : r ≠ 0) (x c : EReal) : x * Ideal.div c r = Ideal.div x r * c := by
  rw [Ideal.div, Ideal.div, if_neg hr, if_neg hr, mul_comm c, mul_assoc]

/-- The spread of a window, with one in place of zero, is not zero. -/
theorem spread_ne_zero {mn mx : EReal} (h : mn < mx) : mx - mn ≠ 0 := by
  induction mn using EReal.rec with
  | bot =>
    induction mx using EReal.rec with
    | bot => simp at h
    | top => simp
    | coe r => simp
  | top => simp at h
  | coe a =>
    induction mx using EReal.rec with
    | bot => simp at h
    | top => simp
    | coe r =>
      have : a < r := by exact_mod_cast h
      exact_mod_cast (sub_pos.mpr this).ne'

/-- The bin of a scaled offset: its floor, clipped to 0..24. -/
def bin (e : EReal) : EReal := min ((24 : ℝ) : EReal) (max 0 (Ideal.liftRound Int.floor e))

/-- The bin is one of the numbers 0..24. -/
theorem bin_eq (e : EReal) : ∃ n : ℕ, n < 25 ∧ bin e = ((n : ℝ) : EReal) := by
  unfold bin
  induction e using EReal.rec with
  | bot => exact ⟨0, by omega, by simp⟩
  | top => exact ⟨24, by omega, by simp⟩
  | coe r =>
    rw [Ideal.liftRound_coe]
    refine ⟨(min 24 (max 0 ⌊r⌋)).toNat, by omega, ?_⟩
    have h0 : ((min 24 (max 0 ⌊r⌋)).toNat : ℤ) = min 24 (max 0 ⌊r⌋) := Int.toNat_of_nonneg (by omega)
    have h1 : (((min 24 (max 0 ⌊r⌋)).toNat : ℕ) : ℝ) = min 24 (max 0 (⌊r⌋ : ℝ)) := by
      have := congrArg (fun z : ℤ => (z : ℝ)) h0
      push_cast at this
      simpa using this
    rw [h1, EReal.coe_strictMono.monotone.map_min, EReal.coe_strictMono.monotone.map_max, EReal.coe_zero]

/-- The bin's integer word. -/
theorem fptosi_nat {n : ℕ} (hn : n < 25) : Ideal.fptosi 32 ((n : ℝ) : EReal) = BitVec.ofNat 32 n := by
  rw [Ideal.fptosi, Ideal.toIntClamped_coe]
  have h : (0 : ℝ) ≤ n := Nat.cast_nonneg n
  rw [if_pos h, Int.floor_natCast]
  have : max (-(2 ^ (32 - 1) : Nat) : ℤ) (min (((2 ^ (32 - 1) : Nat) : ℤ) - 1) (n : ℤ)) = (n : ℤ) := by
    have : ((2 ^ (32 - 1) : Nat) : ℤ) = 2147483648 := by norm_num
    rw [this]; omega
  rw [this, BitVec.ofInt_natCast]

/-- The float comparison of a bin with a bin number is the comparison of the words. -/
theorem bin_cmp (e : EReal) {k : ℕ} (hk : k < 25) :
    Ideal.cmp .oeq (bin e) ((k : ℝ) : EReal) = BitVec.ofBool (Ideal.fptosi 32 (bin e) == BitVec.ofNat 32 k) := by
  obtain ⟨n, hn, e1⟩ := bin_eq e
  rw [e1, fptosi_nat hn]
  show BitVec.ofBool (decide (((n : ℝ) : EReal) = ((k : ℝ) : EReal))) = _
  congr 1
  rw [Bool.eq_iff_iff]
  simp only [decide_eq_true_eq, beq_iff_eq]
  constructor
  · intro h
    have : n = k := by exact_mod_cast h
    rw [this]
  · intro h
    have := congrArg BitVec.toNat h
    simp only [BitVec.toNat_ofNat] at this
    have : n = k := by omega
    rw [this]

/-- A sum of floats made of one-bit words is the number of the ones. -/
theorem sum_bits {ι : Type} (p : ι → BitVec 1) (S : Finset ι) :
    ∑ k ∈ S, ((((p k).setWidth 32).toInt : ℝ) : EReal) = (((S.filter fun k => p k = 1#1).card : ℝ) : EReal) := by
  classical
  induction S using Finset.induction_on with
  | empty => simp
  | insert a S ha ih =>
    rw [Finset.sum_insert ha, ih, Finset.filter_insert]
    by_cases h : p a = 1#1
    · rw [if_pos h, Finset.card_insert_of_notMem (fun hm => ha (Finset.mem_filter.1 hm).1), h]
      have e : ((1#1 : BitVec 1).setWidth 32).toInt = 1 := by decide
      rw [e, ← EReal.coe_add]
      push_cast
      rw [add_comm]
    · rw [if_neg h]
      have h0 : p a = 0#1 := by
        have := (p a).isLt
        apply BitVec.eq_of_toNat_eq
        have h' : (p a).toNat ≠ 1 := fun hh => h (BitVec.eq_of_toNat_eq (by simpa using hh))
        simp only [BitVec.toNat_ofNat]
        omega
      have e : ((0#1 : BitVec 1).setWidth 32).toInt = 0 := by decide
      rw [h0, e]
      simp

/-- The number of ones among at most 25 words, as a word read as an integer. -/
theorem toInt_card {n : ℕ} (hn : n ≤ 25) : (BitVec.ofNat 32 n).toInt = (n : ℤ) := by
  have h : (BitVec.ofNat 32 n).toNat = n := by
    rw [BitVec.toNat_ofNat]; omega
  rw [BitVec.toInt_eq_toNat_cond, h, if_pos (by omega)]

/-- The count of a bin as the integer sum's float is the sum of the floats. -/
theorem count_eq (p : Fin 25 → BitVec 1) :
    ((((Finset.univ.fold IntOp.addi (0#32) fun k => (p k).setWidth 32).toInt : ℝ)) : EReal)
      = ∑ k, ((((p k).setWidth 32).toInt : ℝ) : EReal) := by
  rw [IndicatorCount.fold_addi_setWidth_eq_card, sum_bits, toInt_card]
  · push_cast; rfl
  · exact (Finset.card_filter_le _ _).trans (by simp)

end Cert.Scalars
-- ==== Proof.Spec.lean ====
/-
  The network's mathematics over the extended reals, as functions of plain index types: images are functions of a row and a
  column, so that the kernel's regions and the reference's stretches are stated in one vocabulary.
-/
module

public import proofs.«01_k».proof.Proof.Scalars

@[expose] public section

noncomputable section

open Idealize.ShloMosaic

namespace Cert.Spec

/-- The square image of side `n` with a border of zeros, rows and columns counted from the border's corner. -/
def border (p n : ℕ) (x : Fin n → Fin n → EReal) (y z : ℕ) : EReal :=
  if h : (p ≤ y ∧ y - p < n) ∧ (p ≤ z ∧ z - p < n) then x ⟨y - p, h.1.2⟩ ⟨z - p, h.2.2⟩ else 0

/-- One output pixel of the convolution of `C` bordered images with a `K × K` filter, `bias` added. -/
def conv {C K : ℕ} (s : ℕ) (w : Fin C → Fin K → Fin K → EReal) (x : Fin C → ℕ → ℕ → EReal) (bias : EReal) (y z : ℕ) : EReal :=
  (∑ i : Fin K, ∑ j : Fin K, ∑ c : Fin C, w c i j * x c (s * y + i) (s * z + j)) + bias

/-- The mean of a square image, `N` its number of pixels as a float constant. -/
def mean {n : ℕ} (N : EReal) (a : Fin n → Fin n → EReal) : EReal := Ideal.div (∑ y, ∑ z, a y z) N

/-- The variance of a square image. -/
def var {n : ℕ} (N : EReal) (a : Fin n → Fin n → EReal) : EReal :=
  mean N fun y z => (a y z - mean N a) * (a y z - mean N a)

/-- The float constant 1e-5. -/
def eps : EReal := Ideal.ofBits .f32 0x3727C5AC#32

/-- Normalisation of one channel, scaled, shifted and rectified. -/
def groupNorm {n : ℕ} (N w b : EReal) (a : Fin n → Fin n → EReal) (y z : Fin n) : EReal :=
  max (Ideal.div (a y z - mean N a) (Ideal.sqrt (var N a + eps)) * w + b) 0

/-- The `5 × 5` window at a pixel, its positions counted row by row. -/
def window (a : Fin 18 → Fin 18 → EReal) (y z : Fin 14) (t : Fin 25) : EReal :=
  a ⟨y + t / 5, by omega⟩ ⟨z + t % 5, by omega⟩

/-- A window's least value. -/
def low (v : Fin 25 → EReal) : EReal := Finset.univ.inf v

/-- A window's greatest value. -/
def high (v : Fin 25 → EReal) : EReal := Finset.univ.sup v

/-- A window's spread, one where the window is constant. -/
def spread (v : Fin 25 → EReal) : EReal := if low v < high v then high v - low v else 1

/-- The bin of the window's value at a position. -/
def binOf (v : Fin 25 → EReal) (t : Fin 25) : EReal := Scalars.bin (Ideal.div (v t - low v) (spread v) * ((25 : ℝ) : EReal))

/-- How many of the window's values lie in bin `k`, over 25. -/
def freq (v : Fin 25 → EReal) (k : Fin 25) : EReal :=
  Ideal.div (∑ t, ((((Ideal.cmp .oeq (binOf v t) ((k.val : ℝ) : EReal)).setWidth 32).toInt : ℝ) : EReal)) ((25 : ℝ) : EReal)

/-- A frequency kept inside the two float constants next to 0 and 1. -/
def clip (p : EReal) : EReal := min (Ideal.ofBits .f32 0x3F7FFF58#32) (max eps p)

/-- A window's entropy over the 25 bins. -/
def entropy (v : Fin 25 → EReal) : EReal := ∑ k, -freq v k * Ideal.log (clip (freq v k))

/-- A channel's mean entropy. -/
def meanEntropy (a : Fin 18 → Fin 18 → EReal) : EReal := mean ((196 : ℝ) : EReal) fun y z => entropy (window a y z)

/-- Instance normalisation of one channel, weighted by the channel's entropy, shifted and rectified. -/
def entNorm (w b : EReal) (a : Fin 18 → Fin 18 → EReal) (y z : Fin 18) : EReal :=
  max (Ideal.div (a y z - mean ((324 : ℝ) : EReal) a)
    (Ideal.sqrt (var ((324 : ℝ) : EReal) a * Ideal.ofBits .f32 0x3F806573#32 + eps)) * w * meanEntropy a + b) 0

end Cert.Spec
-- ==== Proof.Consts.lean ====
/-
  The float constants of both programs, as reals.
-/
module

public import Idealize.ShloMosaic.Lib.IdealHost

@[expose] public section

noncomputable section

open Idealize.ShloMosaic

namespace Cert.Consts

/-- The floats 0 … 24, as words. -/
def words : List (BitVec 32) :=
  [0x00000000#32, 0x3F800000#32, 0x40000000#32, 0x40400000#32, 0x40800000#32, 0x40A00000#32, 0x40C00000#32, 0x40E00000#32,
   0x41000000#32, 0x41100000#32, 0x41200000#32, 0x41300000#32, 0x41400000#32, 0x41500000#32, 0x41600000#32, 0x41700000#32,
   0x41800000#32, 0x41880000#32, 0x41900000#32, 0x41980000#32, 0x41A00000#32, 0x41A80000#32, 0x41B00000#32, 0x41B80000#32,
   0x41C00000#32]

/-- The word at place `k` is the float `k`. -/
theorem words_val (k : Fin 25) : Ideal.ofBits .f32 (words[k.val]'(by simp [words])) = ((k.val : ℝ) : EReal) := by
  fin_cases k <;> simp [words, Ideal.ofBits, Ideal.ieee, -EReal.coe_mul] <;> norm_num

theorem w24 : Ideal.ofBits .f32 0x41C00000#32 = ((24 : ℝ) : EReal) := by simp [Ideal.ofBits, Ideal.ieee, -EReal.coe_mul]; norm_num
theorem w25 : Ideal.ofBits .f32 0x41C80000#32 = ((25 : ℝ) : EReal) := by simp [Ideal.ofBits, Ideal.ieee, -EReal.coe_mul]; norm_num
theorem w64 : Ideal.ofBits .f32 0x42800000#32 = ((64 : ℝ) : EReal) := by simp [Ideal.ofBits, Ideal.ieee, -EReal.coe_mul]; norm_num
theorem w196 : Ideal.ofBits .f32 0x43440000#32 = ((196 : ℝ) : EReal) := by simp [Ideal.ofBits, Ideal.ieee, -EReal.coe_mul]; norm_num
theorem w324 : Ideal.ofBits .f32 0x43A20000#32 = ((324 : ℝ) : EReal) := by simp [Ideal.ofBits, Ideal.ieee, -EReal.coe_mul]; norm_num
theorem w3136 : Ideal.ofBits .f32 0x45440000#32 = ((3136 : ℝ) : EReal) := by simp [Ideal.ofBits, Ideal.ieee, -EReal.coe_mul]; norm_num
theorem w_top : Ideal.ofBits .f32 0x7F800000#32 = ⊤ := by simp [Ideal.ofBits, Ideal.ieee, -EReal.coe_mul]
theorem w_bot : Ideal.ofBits .f32 0xFF800000#32 = ⊥ := by simp [Ideal.ofBits, Ideal.ieee, -EReal.coe_mul]

/-- The constant 1e-5 is a positive real. -/
theorem w_eps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

/-- The constant 324/323 is not negative. -/
theorem w_unbias : 0 ≤ Ideal.ofBits .f32 0x3F806573#32 := by
  simp [Ideal.ofBits, Ideal.ieee, -EReal.coe_mul]

end Cert.Consts
-- ==== Proof.MidBody.lean ====
/-
  The body shared by the two middle regions, from their convolution's accumulator on, as functions of whole vectors: the 25
  shifted slices, their least and greatest values, the bins, the entropy, and the normalisation.
-/
module

public import proofs.«01_k».proof.Proof.Spec
public import proofs.«01_k».proof.Proof.Consts
public import proofs.«01_k».proof.Proof.Gen.KernelIdeal.Skeleton

@[expose] public section

noncomputable section

open Idealize.ShloMosaic

namespace Cert.KernelIdeal.Body

open Cert.KernelIdeal Cert.KernelIdeal.Gen

/-- A left-nested fold of the values at `0 … n`. -/
def foldTo {α : Type} (op : α → α → α) (f : ℕ → α) : ℕ → α
  | 0 => f 0
  | n + 1 => op (foldTo op f n) (f (n + 1))

theorem slab_ok (t : ℕ) : S18x18x64.Slices ![t / 5 % 5, t % 5, 0] S14x14x64 := by
  refine ⟨rfl, fun a => ?_⟩
  fin_cases a
  · show t / 5 % 5 + 14 ≤ 18
    omega
  · show t % 5 + 14 ≤ 18
    omega
  · show 0 + 64 ≤ 64
    omega

/-- The image shifted by window position `t`. -/
def slab (acc : FVec Ideal S18x18x64 .f32) (t : ℕ) : FVec Ideal S14x14x64 .f32 :=
  extractStridedSlice S14x14x64 ![t / 5 % 5, t % 5, 0] acc (slab_ok t)

/-- Every window's least value. -/
def lowV (acc : FVec Ideal S18x18x64 .f32) : FVec Ideal S14x14x64 .f32 := foldTo minimumf (slab acc) 24

/-- Every window's greatest value. -/
def highV (acc : FVec Ideal S18x18x64 .f32) : FVec Ideal S14x14x64 .f32 := foldTo maximumf (slab acc) 24

/-- 25 over every window's spread. -/
def invV (acc : FVec Ideal S18x18x64 .f32) : FVec Ideal S14x14x64 .f32 :=
  divf (broadcast S14x14x64 (Scalar.ofBits .f32 0x41C80000#32))
    (select (cmpf .ogt (highV acc) (lowV acc)) (subf (highV acc) (lowV acc)) (broadcast S14x14x64 (Scalar.ofBits .f32 0x3F800000#32)))

/-- The bin of every window's value at position `t`. -/
def binV (acc : FVec Ideal S18x18x64 .f32) (t : ℕ) : FVec Ideal S14x14x64 .f32 :=
  minimumf (broadcast S14x14x64 (Scalar.ofBits .f32 0x41C00000#32))
    (maximumf (broadcast S14x14x64 (Scalar.ofBits .f32 0x00000000#32)) (floor (mulf (subf (slab acc t) (lowV acc)) (invV acc))))

/-- One layer of the stacked bins. -/
def layer (acc : FVec Ideal S18x18x64 .f32) (t : ℕ) : (s : Shape) × (s.Idx → Ideal .f32) :=
  ⟨S1x14x14x64, shapeCast S1x14x14x64 (binV acc t) shapeCasts_S14x14x64_S1x14x14x64⟩

/-- All the bins, stacked. -/
def binsV (acc : FVec Ideal S18x18x64 .f32) : FVec Ideal S25x14x14x64 .f32 :=
  concatenate S25x14x14x64 0 [layer acc 0, layer acc 1, layer acc 2, layer acc 3, layer acc 4, layer acc 5, layer acc 6, layer acc 7,
    layer acc 8, layer acc 9, layer acc 10, layer acc 11, layer acc 12, layer acc 13, layer acc 14, layer acc 15, layer acc 16,
    layer acc 17, layer acc 18, layer acc 19, layer acc 20, layer acc 21, layer acc 22, layer acc 23, layer acc 24]
    concatenates_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S1x14x14x64_S25x14x14x64_d0

/-- The frequency of the bin whose float is the word `w`. -/
def freqV (q : FVec Ideal S25x14x14x64 .f32) (w : BitVec 32) : FVec Ideal S14x14x64 .f32 :=
  mulf (multiReduction .add [0] S14x14x64 (sitofp .f32 (extui 32 (cmpf .oeq q (broadcast S25x14x14x64 (Scalar.ofBits .f32 w))) natLt_1_32))
    0x00000000#32 reduces_S25x14x14x64_S14x14x64 (.inl rfl) rfl) (broadcast S14x14x64 (Named.named κ "inv25" 0x3D23D70A#32))

/-- One bin's step of the entropy. -/
def entStep (q : FVec Ideal S25x14x14x64 .f32) (ent : FVec Ideal S14x14x64 .f32) (w : BitVec 32) : FVec Ideal S14x14x64 .f32 :=
  subf ent (mulf (freqV q w) (log (minimumf (broadcast S14x14x64 (Scalar.ofBits .f32 0x3F7FFF58#32))
    (maximumf (broadcast S14x14x64 (Scalar.ofBits .f32 0x3727C5AC#32)) (freqV q w)))))

/-- Every window's entropy. -/
def entV (acc : FVec Ideal S18x18x64 .f32) : FVec Ideal S14x14x64 .f32 :=
  Consts.words.foldl (entStep (binsV acc)) (broadcast S14x14x64 (Scalar.ofBits .f32 0x00000000#32))

/-- A channel's mean entropy, image by image. -/
def entMeanV (acc : FVec Ideal S18x18x64 .f32) : FVec Ideal S64 .f32 :=
  divf (multiReduction .add [0, 1] S64 (entV acc) 0x00000000#32 reduces_S14x14x64_S64 (.inl rfl) rfl)
    (broadcast S64 (Scalar.ofBits .f32 0x43440000#32))

/-- A value per image, repeated over the image. -/
def overV (v : FVec Ideal S64 .f32) : FVec Ideal S18x18x64 .f32 :=
  broadcastTo S18x18x64 (shapeCast S1x1x64 v shapeCasts_S64_S1x1x64) broadcasts_S1x1x64_S18x18x64

/-- The mean over an image. -/
def meanV (acc : FVec Ideal S18x18x64 .f32) : FVec Ideal S64 .f32 :=
  divf (multiReduction .add [0, 1] S64 acc 0x00000000#32 reduces_S18x18x64_S64 (.inl rfl) rfl)
    (broadcast S64 (Scalar.ofBits .f32 0x43A20000#32))

/-- The image less its mean. -/
def devV (acc : FVec Ideal S18x18x64 .f32) : FVec Ideal S18x18x64 .f32 := subf acc (overV (meanV acc))

/-- The reciprocal of the standard deviation. -/
def rstdV (acc : FVec Ideal S18x18x64 .f32) : FVec Ideal S64 .f32 :=
  rsqrt (addf (mulf (meanV (mulf (devV acc) (devV acc))) (broadcast S64 (Scalar.ofBits .f32 0x3F806573#32)))
    (broadcast S64 (Scalar.ofBits .f32 0x3727C5AC#32)))

/-- What a middle region stores, from its accumulator, its weight and its shift. -/
def midV (acc : FVec Ideal S18x18x64 .f32) (w b : Vec Ideal S1x1x1 .f32) : FVec Ideal S1x18x18x64 .f32 :=
  shapeCast S1x18x18x64 (maximumf (addf (mulf (mulf (devV acc) (overV (rstdV acc)))
      (overV (mulf (broadcast S64 (extractAt ![0, 0, 0] w inpos_S1x1x1_p0_0_0)) (entMeanV acc))))
    (broadcast S18x18x64 (extractAt ![0, 0, 0] b inpos_S1x1x1_p0_0_0)))
    (broadcast S18x18x64 (Scalar.ofBits .f32 0x00000000#32))) shapeCasts_S18x18x64_S1x18x18x64

end Cert.KernelIdeal.Body
-- ==== Proof.MidValue.lean ====
/-
  The middle regions' body read at an index: each step of `MidBody`'s vectors, at one pixel of one image, is the network's
  mathematics of that image.
-/
module

public import proofs.«01_k».proof.Proof.MidBody
public import Idealize.ShloMosaic.Lib.Pointwise

@[expose] public section

set_option maxRecDepth 16384

noncomputable section

open Idealize.ShloMosaic

namespace Cert.KernelIdeal.Body

open Cert.KernelIdeal Cert.KernelIdeal.Gen

/-- A fold of elementwise vectors, at an index, is the fold of the elements. -/
theorem foldTo_apply {ι β : Type} (op : β → β → β) (f : ℕ → ι → β) (n : ℕ) (j : ι) :
    foldTo (fun a b i => op (a i) (b i)) f n j = foldTo op (fun t => f t j) n := by
  induction n with
  | zero => rfl
  | succ n ih => show op (foldTo _ f n j) _ = _; rw [ih]; rfl

theorem foldTo_min (f : ℕ → EReal) (n : ℕ) : foldTo min f n = Finset.univ.inf fun t : Fin (n + 1) => f t := by
  apply le_antisymm
  · refine Finset.le_inf fun t _ => ?_
    obtain ⟨t, ht⟩ := t
    induction n with
    | zero => obtain rfl : t = 0 := by omega
              exact le_rfl
    | succ n ih =>
      rcases Nat.lt_or_ge t (n + 1) with h | h
      · exact (min_le_left _ _).trans (ih h (Finset.mem_univ _))
      · obtain rfl : t = n + 1 := by omega
        exact min_le_right _ _
  · induction n with
    | zero => exact Finset.inf_le (Finset.mem_univ (0 : Fin 1))
    | succ n ih =>
      refine le_min (le_trans ?_ ih) (Finset.inf_le (Finset.mem_univ (Fin.last (n + 1))))
      exact Finset.le_inf fun t _ => Finset.inf_le (f := fun t : Fin (n + 1 + 1) => f t) (Finset.mem_univ t.castSucc)

theorem foldTo_max (f : ℕ → EReal) (n : ℕ) : foldTo max f n = Finset.univ.sup fun t : Fin (n + 1) => f t := by
  apply le_antisymm
  · induction n with
    | zero => exact Finset.le_sup (f := fun t : Fin 1 => f t) (Finset.mem_univ (0 : Fin 1))
    | succ n ih =>
      refine max_le (le_trans ih ?_) (Finset.le_sup (f := fun t : Fin (n + 1 + 1) => f t) (Finset.mem_univ (Fin.last (n + 1))))
      exact Finset.sup_le fun t _ => Finset.le_sup (f := fun t : Fin (n + 1 + 1) => f t) (Finset.mem_univ t.castSucc)
  · refine Finset.sup_le fun t _ => ?_
    obtain ⟨t, ht⟩ := t
    induction n with
    | zero => obtain rfl : t = 0 := by omega
              exact le_rfl
    | succ n ih =>
      rcases Nat.lt_or_ge t (n + 1) with h | h
      · exact (ih h (Finset.mem_univ _)).trans (le_max_left _ _)
      · obtain rfl : t = n + 1 := by omega
        exact le_max_right _ _

/-- The image of one batch element. -/
def img (acc : FVec Ideal S18x18x64 .f32) (n : Fin 64) (y z : Fin 18) : EReal := acc (ix3 y z n)

variable (acc : FVec Ideal S18x18x64 .f32) (n : Fin 64) (y z : Fin 14)

theorem slab_apply (t : Fin 25) : slab acc t (ix3 y z n) = Spec.window (img acc n) y z t := by
  unfold slab Spec.window img
  pointwise
  have := t.isLt
  congr 2
  · apply Fin.ext
    simp only
    omega
  · apply Fin.ext
    simp only
    omega

theorem lowV_apply : lowV acc (ix3 y z n) = Spec.low (Spec.window (img acc n) y z) := by
  refine (foldTo_apply (min : EReal → EReal → EReal) (slab acc) 24 (ix3 y z n)).trans ?_
  rw [foldTo_min]
  exact Finset.inf_congr rfl fun t _ => slab_apply acc n y z t

theorem highV_apply : highV acc (ix3 y z n) = Spec.high (Spec.window (img acc n) y z) := by
  refine (foldTo_apply (max : EReal → EReal → EReal) (slab acc) 24 (ix3 y z n)).trans ?_
  rw [foldTo_max]
  exact Finset.sup_congr rfl fun t _ => slab_apply acc n y z t

theorem invV_apply : invV acc (ix3 y z n) = Ideal.div ((25 : ℝ) : EReal) (Spec.spread (Spec.window (img acc n) y z)) := by
  unfold invV
  pointwise
  rw [lowV_apply, highV_apply]
  exact congrArg (fun c => Ideal.div c _) Consts.w25

theorem spread_ne (v : Fin 25 → EReal) : Spec.spread v ≠ 0 := by
  unfold Spec.spread
  split_ifs with h
  · exact Scalars.spread_ne_zero h
  · exact one_ne_zero

theorem binV_apply (t : Fin 25) : binV acc t (ix3 y z n) = Spec.binOf (Spec.window (img acc n) y z) t := by
  unfold binV Spec.binOf Scalars.bin
  pointwise
  rw [lowV_apply, invV_apply, slab_apply, Scalars.mul_div_comm (spread_ne _)]
  exact congrArg (fun c => min c _) Consts.w24

theorem binsV_apply (t : Fin 25) : binsV acc (ix4 t y z n) = binV acc t (ix3 y z n) := by
  unfold binsV layer
  pointwise
  fin_vals t with ht
  all_goals simp only [ht, Nat.reduceSub, Nat.reduceLT, ↓reduceDIte]

theorem freqV_apply (k : Fin 25) :
    freqV (binsV acc) (Consts.words[k.val]'(by simp [Consts.words])) (ix3 y z n) = Spec.freq (Spec.window (img acc n) y z) k := by
  unfold freqV Spec.freq
  pointwise
  simp only [binsV_apply, binV_apply, Consts.words_val]
  rw [IdealRules.named_const.ideal_named_scalar κ "inv25" (φ := .f32) 0x3D23D70A#32 _ rfl, Ideal.div_coe (by norm_num)]
  exact congrArg (fun c => _ * c) (congrArg _ (by norm_num))

/-- Successive differences, as one sum. -/
theorem foldl_sub {ι : Type} (f : ι → EReal) (l : List ι) (e : EReal) :
    l.foldl (fun a w => a - f w) e = e + (l.map fun w => -f w).sum := by
  induction l generalizing e with
  | nil => simp
  | cons w l ih => rw [List.foldl_cons, ih, List.map_cons, List.sum_cons, sub_eq_add_neg, add_assoc]

theorem foldl_entStep (q : FVec Ideal S25x14x14x64 .f32) (l : List (BitVec 32)) (e : FVec Ideal S14x14x64 .f32) (j : S14x14x64.Idx) :
    l.foldl (entStep q) e j = l.foldl (fun a w => a - freqV q w j * Ideal.log (Spec.clip (freqV q w j))) (e j) := by
  induction l generalizing e with
  | nil => rfl
  | cons w l ih => rw [List.foldl_cons, List.foldl_cons, ih]; rfl

theorem entV_apply : entV acc (ix3 y z n) = Spec.entropy (Spec.window (img acc n) y z) := by
  unfold entV Spec.entropy
  rw [foldl_entStep, foldl_sub, ← Fin.sum_univ_fun_getElem]
  pointwise
  refine Finset.sum_congr rfl fun (k : Fin 25) _ => ?_
  rw [EReal.neg_mul]
  have e := freqV_apply acc n y z k
  exact congrArg (fun p => -(p * Ideal.log (Spec.clip p))) e

/-- A sum over an image of a stack whose images are indexed last. -/
theorem sum_image {n0 n1 n2 : ℕ} (h : (⟨3, ![n0, n1, n2]⟩ : Shape).Reduces [0, 1] ⟨1, ![n2]⟩)
    (v : (⟨3, ![n0, n1, n2]⟩ : Shape).Idx → EReal) (k : Fin n2) :
    Ideal.reduceAdd h v (ix1 k) = ∑ a : Fin n0, ∑ b : Fin n1, v (ix3 a b k) := by
  rw [← Fintype.sum_prod_type' fun a b => v (ix3 a b k)]
  refine Finset.sum_filter_eq_sum_of_fiber _ (fun p : Fin n0 × Fin n1 => ix3 p.1 p.2 k)
    (fun _ _ e => Prod.ext (congrFun e 0) (congrFun e 1)) (fun i => ⟨fun e => ⟨(i 0, i 1), ?_⟩, ?_⟩) v
  · have : i 2 = k := Fin.ext (congrArg Fin.val (congrFun e 0))
    rw [← this]
    exact ix3_eta i
  · rintro ⟨p, rfl⟩
    funext b
    fin_cases b
    rfl

theorem entMeanV_apply : entMeanV acc (ix1 n) = Spec.meanEntropy (img acc n) := by
  unfold entMeanV Spec.meanEntropy Spec.mean
  pointwise
  rw [sum_image]
  simp only [entV_apply]
  exact congrArg (Ideal.div _) Consts.w196

theorem meanV_apply : meanV acc (ix1 n) = Spec.mean ((324 : ℝ) : EReal) (img acc n) := by
  unfold meanV Spec.mean img
  pointwise
  rw [sum_image]
  exact congrArg (Ideal.div _) Consts.w324

theorem devV_apply (y z : Fin 18) : devV acc (ix3 y z n) = img acc n y z - Spec.mean ((324 : ℝ) : EReal) (img acc n) := by
  unfold devV overV
  pointwise
  rw [meanV_apply]
  rfl

theorem var_nonneg {k : ℕ} {N : ℝ} (hN : 0 < N) (a : Fin k → Fin k → EReal) : 0 ≤ Spec.var (N : EReal) a :=
  Scalars.div_nonneg (Finset.sum_nonneg fun _ _ => Finset.sum_nonneg fun _ _ => Scalars.mul_self_nonneg _) hN

theorem midV_apply (w b : Vec Ideal S1x1x1 .f32) (y z : Fin 18) :
    midV acc w b (ix4 0 y z n) = Spec.entNorm (w (ix3 0 0 0)) (b (ix3 0 0 0)) (img acc n) y z := by
  unfold midV overV rstdV Spec.entNorm
  pointwise
  rw [devV_apply, meanV_apply, entMeanV_apply]
  have e : Spec.mean ((324 : ℝ) : EReal) (img (mulf (devV acc) (devV acc)) n) = Spec.var ((324 : ℝ) : EReal) (img acc n) :=
    congrArg (Spec.mean _) (funext fun y => funext fun z => congrArg₂ (· * ·) (devV_apply acc n y z) (devV_apply acc n y z))
  obtain ⟨c, hc, ec⟩ := Consts.w_eps
  have h : 0 < Spec.var ((324 : ℝ) : EReal) (img acc n) * Ideal.ofBits .f32 0x3F806573#32 + Spec.eps := by
    rw [Spec.eps, ec]
    exact Scalars.add_pos_coe (mul_nonneg (var_nonneg (by norm_num) _) Consts.w_unbias) hc
  rw [e, ← Scalars.mul_rsqrt h, ← mul_assoc]
  rfl

end Cert.KernelIdeal.Body
-- ==== Proof.Mid1.lean ====
/-
  The second block's convolution as the region accumulates it: tap by tap, from the weight block and the image block.
-/
module

public import proofs.«01_k».proof.Proof.MidBody
public import proofs.«01_k».proof.Proof.Gen.KernelIdeal.Frame.Region1

@[expose] public section

set_option maxRecDepth 16384

noncomputable section

open Idealize.ShloMosaic

namespace Cert.KernelIdeal.Body

open Cert.KernelIdeal Cert.KernelIdeal.Gen

theorem tapX1_ok (t : ℕ) : ∀ a, (![t / 40 % 5 % 3, t / 8 % 5 % 3, t % 8, t / 40 % 5 / 3, t / 8 % 5 / 3, 0] : Fin 6 → ℕ) a
    + S1x1x1x18x18x64.size a ≤ S3x3x8x20x20x64.size a := by
  intro a
  fin_cases a
  · show t / 40 % 5 % 3 + 1 ≤ 3
    omega
  · show t / 8 % 5 % 3 + 1 ≤ 3
    omega
  · show t % 8 + 1 ≤ 8
    omega
  · show t / 40 % 5 / 3 + 18 ≤ 20
    omega
  · show t / 8 % 5 / 3 + 18 ≤ 20
    omega
  · show 0 + 64 ≤ 64
    omega

theorem tapW1_ok (t : ℕ) : ∀ a, (![0, t % 8, t / 40 % 5, t / 8 % 5] : Fin 4 → ℕ) a + S1x1x1x1.size a ≤ S1x8x5x5.size a := by
  intro a
  fin_cases a
  · show 0 + 1 ≤ 1
    omega
  · show t % 8 + 1 ≤ 8
    omega
  · show t / 40 % 5 + 1 ≤ 5
    omega
  · show t / 8 % 5 + 1 ≤ 5
    omega

/-- Tap `t` of the second block's convolution: filter row `t / 40`, column `t / 8 % 5`, input channel `t % 8`. -/
def tap1 (x0 : Vec Ideal S3x3x8x20x20x64 .f32) (x1 : Vec Ideal S1x8x5x5 .f32) (t : ℕ) : FVec Ideal S18x18x64 .f32 :=
  mulf (broadcast S18x18x64 (extractAt ![0, 0, 0, 0]
      (View.ld x1 (Rect.unit (s := S1x8x5x5) ![0, t % 8, t / 40 % 5, t / 8 % 5] S1x1x1x1.size (tapW1_ok t)) : Vec Ideal S1x1x1x1 .f32)
      inpos_S1x1x1x1_p0_0_0_0))
    (shapeCast S18x18x64
      (View.ld x0 (Rect.unit (s := S3x3x8x20x20x64) ![t / 40 % 5 % 3, t / 8 % 5 % 3, t % 8, t / 40 % 5 / 3, t / 8 % 5 / 3, 0]
        S1x1x1x18x18x64.size (tapX1_ok t)) : Vec Ideal S1x1x1x18x18x64 .f32) shapeCasts_S1x1x1x18x18x64_S18x18x64)

/-- The accumulator after every tap and the bias. -/
def acc1 (x0 : Vec Ideal S3x3x8x20x20x64 .f32) (x1 : Vec Ideal S1x8x5x5 .f32) (x2 : Vec Ideal S1x1x1 .f32) : FVec Ideal S18x18x64 .f32 :=
  addf (foldTo addf (tap1 x0 x1) 199) (broadcast S18x18x64 (extractAt ![0, 0, 0] (View.ld x2 r1_400 : Vec Ideal S1x1x1 .f32) inpos_S1x1x1_p0_0_0))

theorem acc1_eq (x0 : Vec Ideal S3x3x8x20x20x64 .f32) (x1 : Vec Ideal S1x8x5x5 .f32) (x2 x3 x4 : Vec Ideal S1x1x1 .f32) :
    k1_pay184 x0 x1 x2 x3 x4 = acc1 x0 x1 x2 := by
  rfl

theorem out1_eq (x0 : Vec Ideal S3x3x8x20x20x64 .f32) (x1 : Vec Ideal S1x8x5x5 .f32) (x2 x3 x4 : Vec Ideal S1x1x1 .f32) :
    out1_5 x0 x1 x2 x3 x4 = View.canon [⟨r1_401, midV (acc1 x0 x1 x2) (View.ld x3 r1_400) (View.ld x4 r1_400)⟩] := by
  rw [← acc1_eq x0 x1 x2 x3 x4]
  rfl

end Cert.KernelIdeal.Body
-- ==== Proof.Mid2.lean ====
/-
  The third block's convolution as the region accumulates it: tap by tap, from the weight block and the image block.
-/
module

public import proofs.«01_k».proof.Proof.MidBody
public import proofs.«01_k».proof.Proof.Gen.KernelIdeal.Frame.Region2

@[expose] public section

set_option maxRecDepth 16384

noncomputable section

open Idealize.ShloMosaic

namespace Cert.KernelIdeal.Body

open Cert.KernelIdeal Cert.KernelIdeal.Gen

theorem tapX2_ok (t : ℕ) : ∀ a, (![0, 0, t % 16, t / 48 % 3, t / 16 % 3, 0] : Fin 6 → ℕ) a
    + S1x1x1x18x18x64.size a ≤ S1x1x16x20x20x64.size a := by
  intro a
  fin_cases a
  · show 0 + 1 ≤ 1
    omega
  · show 0 + 1 ≤ 1
    omega
  · show t % 16 + 1 ≤ 16
    omega
  · show t / 48 % 3 + 18 ≤ 20
    omega
  · show t / 16 % 3 + 18 ≤ 20
    omega
  · show 0 + 64 ≤ 64
    omega

theorem tapW2_ok (t : ℕ) : ∀ a, (![0, t % 16, t / 48 % 3, t / 16 % 3] : Fin 4 → ℕ) a + S1x1x1x1.size a ≤ S1x16x3x3.size a := by
  intro a
  fin_cases a
  · show 0 + 1 ≤ 1
    omega
  · show t % 16 + 1 ≤ 16
    omega
  · show t / 48 % 3 + 1 ≤ 3
    omega
  · show t / 16 % 3 + 1 ≤ 3
    omega

/-- Tap `t` of the third block's convolution: filter row `t / 48`, column `t / 16 % 3`, input channel `t % 16`. -/
def tap2 (x0 : Vec Ideal S1x1x16x20x20x64 .f32) (x1 : Vec Ideal S1x16x3x3 .f32) (t : ℕ) : FVec Ideal S18x18x64 .f32 :=
  mulf (broadcast S18x18x64 (extractAt ![0, 0, 0, 0]
      (View.ld x1 (Rect.unit (s := S1x16x3x3) ![0, t % 16, t / 48 % 3, t / 16 % 3] S1x1x1x1.size (tapW2_ok t)) : Vec Ideal S1x1x1x1 .f32)
      inpos_S1x1x1x1_p0_0_0_0))
    (shapeCast S18x18x64
      (View.ld x0 (Rect.unit (s := S1x1x16x20x20x64) ![0, 0, t % 16, t / 48 % 3, t / 16 % 3, 0]
        S1x1x1x18x18x64.size (tapX2_ok t)) : Vec Ideal S1x1x1x18x18x64 .f32) shapeCasts_S1x1x1x18x18x64_S18x18x64)

/-- The accumulator after every tap and the bias. -/
def acc2 (x0 : Vec Ideal S1x1x16x20x20x64 .f32) (x1 : Vec Ideal S1x16x3x3 .f32) (x2 : Vec Ideal S1x1x1 .f32) : FVec Ideal S18x18x64 .f32 :=
  addf (foldTo addf (tap2 x0 x1) 143) (broadcast S18x18x64 (extractAt ![0, 0, 0] (View.ld x2 r2_288 : Vec Ideal S1x1x1 .f32) inpos_S1x1x1_p0_0_0))

theorem acc2_eq (x0 : Vec Ideal S1x1x16x20x20x64 .f32) (x1 : Vec Ideal S1x16x3x3 .f32) (x2 x3 x4 : Vec Ideal S1x1x1 .f32) :
    k2_pay155 x0 x1 x2 x3 x4 = acc2 x0 x1 x2 := by
  rfl

theorem out2_eq (x0 : Vec Ideal S1x1x16x20x20x64 .f32) (x1 : Vec Ideal S1x16x3x3 .f32) (x2 x3 x4 : Vec Ideal S1x1x1 .f32) :
    out2_5 x0 x1 x2 x3 x4 = View.canon [⟨r2_289, midV (acc2 x0 x1 x2) (View.ld x3 r2_288) (View.ld x4 r2_288)⟩] := by
  rw [← acc2_eq x0 x1 x2 x3 x4]
  rfl

end Cert.KernelIdeal.Body
-- ==== Proof.First.lean ====
/-
  The first region's body as functions of whole vectors: the convolution tap by tap, then the group normalisation.
-/
module

public import proofs.«01_k».proof.Proof.MidBody
public import proofs.«01_k».proof.Proof.Gen.KernelIdeal.Frame.Region0

@[expose] public section

set_option maxRecDepth 16384

noncomputable section

open Idealize.ShloMosaic

namespace Cert.KernelIdeal.Body

open Cert.KernelIdeal Cert.KernelIdeal.Gen

theorem tapX0_ok (t : ℕ) : ∀ a, (![0, t / 21 % 7 % 4, t / 3 % 7 % 4, t % 3, t / 21 % 7 / 4, t / 3 % 7 / 4] : Fin 6 → ℕ) a
    + S1x1x1x1x56x56.size a ≤ S1x4x4x3x57x57.size a := by
  intro a
  fin_cases a
  · show 0 + 1 ≤ 1
    omega
  · show t / 21 % 7 % 4 + 1 ≤ 4
    omega
  · show t / 3 % 7 % 4 + 1 ≤ 4
    omega
  · show t % 3 + 1 ≤ 3
    omega
  · show t / 21 % 7 / 4 + 56 ≤ 57
    omega
  · show t / 3 % 7 / 4 + 56 ≤ 57
    omega

theorem tapW0_ok (t : ℕ) : ∀ a, (![0, t % 3, t / 21 % 7, t / 3 % 7] : Fin 4 → ℕ) a + S8x1x1x1.size a ≤ S8x3x7x7.size a := by
  intro a
  fin_cases a
  · show 0 + 8 ≤ 8
    omega
  · show t % 3 + 1 ≤ 3
    omega
  · show t / 21 % 7 + 1 ≤ 7
    omega
  · show t / 3 % 7 + 1 ≤ 7
    omega

/-- Tap `t` of the first block's convolution, on all eight output channels: filter row `t / 21`, column `t / 3 % 7`, input
    channel `t % 3`. -/
def tap0 (x0 : Vec Ideal S1x4x4x3x57x57 .f32) (x1 : Vec Ideal S8x3x7x7 .f32) (t : ℕ) : FVec Ideal S8x56x56 .f32 :=
  mulf
    (broadcastTo S8x56x56 (shapeCast S8x1x1 (shapeCast S8
      (View.ld x1 (Rect.unit (s := S8x3x7x7) ![0, t % 3, t / 21 % 7, t / 3 % 7] S8x1x1x1.size (tapW0_ok t)) : Vec Ideal S8x1x1x1 .f32)
      shapeCasts_S8x1x1x1_S8) shapeCasts_S8_S8x1x1) broadcasts_S8x1x1_S8x56x56)
    (broadcastTo S8x56x56 (shapeCast S1x56x56 (shapeCast S56x56
      (View.ld x0 (Rect.unit (s := S1x4x4x3x57x57) ![0, t / 21 % 7 % 4, t / 3 % 7 % 4, t % 3, t / 21 % 7 / 4, t / 3 % 7 / 4]
        S1x1x1x1x56x56.size (tapX0_ok t)) : Vec Ideal S1x1x1x1x56x56 .f32)
      shapeCasts_S1x1x1x1x56x56_S56x56) shapeCasts_S56x56_S1x56x56) broadcasts_S1x56x56_S8x56x56)

/-- A per-channel value, repeated over the channel's image. -/
def over0V (v : Vec Ideal S8x1x1 .f32) : FVec Ideal S8x56x56 .f32 :=
  broadcastTo S8x56x56 (shapeCast S8x1x1 v shapeCasts_S8x1x1_S8x1x1) broadcasts_S8x1x1_S8x56x56

/-- The zero the accumulation starts from, then the taps. -/
def start0 (f : ℕ → FVec Ideal S8x56x56 .f32) : ℕ → FVec Ideal S8x56x56 .f32
  | 0 => broadcast S8x56x56 (Scalar.ofBits .f32 0x00000000#32)
  | t + 1 => f t

/-- The accumulator after every tap and the bias. -/
def acc0 (x0 : Vec Ideal S1x4x4x3x57x57 .f32) (x1 : Vec Ideal S8x3x7x7 .f32) (x2 : Vec Ideal S8x1x1 .f32) : FVec Ideal S8x56x56 .f32 :=
  addf (foldTo addf (start0 (tap0 x0 x1)) 147) (over0V x2)

/-- The mean of every channel. -/
def mean0V (acc : FVec Ideal S8x56x56 .f32) : FVec Ideal S8x1x1 .f32 :=
  divf (shapeCast S8x1x1 (multiReduction .add [1, 2] S8 acc 0x00000000#32 reduces_S8x56x56_S8 (.inl rfl) rfl) shapeCasts_S8_S8x1x1)
    (broadcast S8x1x1 (Scalar.ofBits .f32 0x45440000#32))

/-- Every channel less its mean. -/
def dev0V (acc : FVec Ideal S8x56x56 .f32) : FVec Ideal S8x56x56 .f32 :=
  subf acc (broadcastTo S8x56x56 (mean0V acc) broadcasts_S8x1x1_S8x56x56)

/-- What the first region stores. -/
def firstV (acc : FVec Ideal S8x56x56 .f32) (w b : Vec Ideal S8x1x1 .f32) : FVec Ideal S1x8x56x56 .f32 :=
  shapeCast S1x8x56x56 (maximumf (addf (mulf (mulf (dev0V acc) (broadcastTo S8x56x56
      (rsqrt (addf (mean0V (mulf (dev0V acc) (dev0V acc))) (broadcast S8x1x1 (Scalar.ofBits .f32 0x3727C5AC#32)))) broadcasts_S8x1x1_S8x56x56))
      (over0V w)) (over0V b)) (broadcast S8x56x56 (Scalar.ofBits .f32 0x00000000#32))) shapeCasts_S8x56x56_S1x8x56x56

theorem out0_eq (x0 : Vec Ideal S1x4x4x3x57x57 .f32) (x1 : Vec Ideal S8x3x7x7 .f32) (x2 x3 x4 : Vec Ideal S8x1x1 .f32) :
    out0_5 x0 x1 x2 x3 x4
      = View.canon [⟨r0_295, firstV (acc0 x0 x1 (View.ld x2 r0_294)) (View.ld x3 r0_294) (View.ld x4 r0_294)⟩] := by
  rfl

end Cert.KernelIdeal.Body
-- ==== Proof.Conv.lean ====
/-
  The convolutions' accumulators read at an index: the taps add up to the convolution of the bordered image.
-/
module

public import proofs.«01_k».proof.Proof.MidValue
public import proofs.«01_k».proof.Proof.Mid1
public import proofs.«01_k».proof.Proof.Mid2
public import proofs.«01_k».proof.Proof.First

@[expose] public section

set_option maxRecDepth 16384

noncomputable section

open Idealize.ShloMosaic

namespace Cert.KernelIdeal.Body

open Cert.KernelIdeal Cert.KernelIdeal.Gen

theorem foldTo_add (f : ℕ → EReal) (n : ℕ) : foldTo (fun a b => a + b) f n = ∑ t ∈ Finset.range (n + 1), f t := by
  induction n with
  | zero => simp [foldTo]
  | succ n ih => rw [Finset.sum_range_succ, ← ih]; rfl

/-- The element of an array that a unit-stride window's element is. -/
theorem idx_unit_eq {s : Shape} {off size : Fin s.rank → ℕ} {inb} (j : (Rect.unit (s := s) off size inb).shape.Idx) (k : s.Idx)
    (h : ∀ a, off a + (j a).val = (k a).val) : (Rect.unit (s := s) off size inb).idx j = k :=
  funext fun a => Fin.ext ((congrArg (off a + ·) (Nat.one_mul _)).trans (h a))

/-- A sum over the positions of a table counted row by row. -/
theorem sum_table (a b : ℕ) (f : ℕ → EReal) : ∑ t ∈ Finset.range (a * b), f t = ∑ i : Fin a, ∑ j : Fin b, f (i * b + j) := by
  rw [← Finset.sum_range fun i => ∑ j : Fin b, f (i * b + j)]
  induction a with
  | zero => simp
  | succ a ih => rw [Nat.succ_mul, Finset.sum_range_add, ih, Finset.sum_range_succ, Finset.sum_range fun x => f (a * b + x)]

/-- A sum over filter taps, as a sum over rows, columns and channels. -/
theorem sum_taps (I J C : ℕ) (f : ℕ → EReal) :
    ∑ t ∈ Finset.range (I * J * C), f t = ∑ i : Fin I, ∑ j : Fin J, ∑ c : Fin C, f ((i * J + j) * C + c) := by
  rw [sum_table, ← Finset.sum_range fun s => ∑ c : Fin C, f (s * C + c), sum_table I J fun s => ∑ c : Fin C, f (s * C + c)]

theorem cast1 (v : Vec Ideal S1x1x1x18x18x64 .f32) (y z : Fin 18) (n : Fin 64) :
    shapeCast S18x18x64 v shapeCasts_S1x1x1x18x18x64_S18x18x64 (ix3 y z n) = v (ix6 0 0 0 y z n) := by pointwise

theorem tap1_apply (x0 : Vec Ideal S3x3x8x20x20x64 .f32) (x1 : Vec Ideal S1x8x5x5 .f32) (x : Fin 8 → ℕ → ℕ → EReal) (n : Fin 64)
    (hx : ∀ (p q : Fin 3) (c : Fin 8) (u v : Fin 20), x0 (ix6 p q c u v n) = x c (3 * u + p) (3 * v + q))
    (i j : Fin 5) (c : Fin 8) (y z : Fin 18) :
    tap1 x0 x1 ((i * 5 + j) * 8 + c) (ix3 y z n) = x1 (ix4 0 c i j) * x c (3 * y + i) (3 * z + j) := by
  have e := hx ⟨i % 3, by omega⟩ ⟨j % 3, by omega⟩ c ⟨i / 3 + y, by omega⟩ ⟨j / 3 + z, by omega⟩
  rw [show 3 * y.val + i = 3 * (i / 3 + y) + i % 3 by omega, show 3 * z.val + j = 3 * (j / 3 + z) + j % 3 by omega]
  refine congrArg₂ (· * ·) (congrArg x1 (idx_unit_eq _ _ fun a => ?_))
    (((cast1 _ y z n).trans (congrArg x0 (idx_unit_eq _ _ fun a => ?_))).trans e)
  · fin_cases a
    · rfl
    · show ((i.val * 5 + j.val) * 8 + c.val) % 8 + 0 = c.val
      omega
    · show ((i.val * 5 + j.val) * 8 + c.val) / 40 % 5 + 0 = i.val
      omega
    · show ((i.val * 5 + j.val) * 8 + c.val) / 8 % 5 + 0 = j.val
      omega
  · fin_cases a
    · show ((i.val * 5 + j.val) * 8 + c.val) / 40 % 5 % 3 + 0 = i.val % 3
      omega
    · show ((i.val * 5 + j.val) * 8 + c.val) / 8 % 5 % 3 + 0 = j.val % 3
      omega
    · show ((i.val * 5 + j.val) * 8 + c.val) % 8 + 0 = c.val
      omega
    · show ((i.val * 5 + j.val) * 8 + c.val) / 40 % 5 / 3 + y.val = i.val / 3 + y.val
      omega
    · show ((i.val * 5 + j.val) * 8 + c.val) / 8 % 5 / 3 + z.val = j.val / 3 + z.val
      omega
    · show 0 + n.val = n.val
      omega

theorem ld_one (x : Vec Ideal S1x1x1 .f32) {inb} : (View.ld x (Rect.unit (s := S1x1x1) ![0, 0, 0] S1x1x1.size inb) : Vec Ideal S1x1x1 .f32) = x :=
  funext fun j => congrArg x (idx_unit_eq _ _ fun a => by fin_cases a <;> exact Nat.zero_add _)

theorem ld_eight (x : Vec Ideal S8x1x1 .f32) {inb} : (View.ld x (Rect.unit (s := S8x1x1) ![0, 0, 0] S8x1x1.size inb) : Vec Ideal S8x1x1 .f32) = x :=
  funext fun j => congrArg x (idx_unit_eq _ _ fun a => by fin_cases a <;> exact Nat.zero_add _)

/-- The second block's accumulator at a pixel of an image. -/
theorem acc1_apply (x0 : Vec Ideal S3x3x8x20x20x64 .f32) (x1 : Vec Ideal S1x8x5x5 .f32) (x2 : Vec Ideal S1x1x1 .f32)
    (x : Fin 8 → ℕ → ℕ → EReal) (n : Fin 64)
    (hx : ∀ (p q : Fin 3) (c : Fin 8) (u v : Fin 20), x0 (ix6 p q c u v n) = x c (3 * u + p) (3 * v + q)) (y z : Fin 18) :
    img (acc1 x0 x1 x2) n y z = Spec.conv 3 (fun c i j => x1 (ix4 0 c i j)) x (x2 (ix3 0 0 0)) y z := by
  refine congrArg₂ (· + ·) ?_ (congrArg x2 (idx_unit_eq (s := S1x1x1) _ (ix3 0 0 0) fun a => by fin_cases a <;> rfl))
  refine (foldTo_apply (fun a b : EReal => a + b) (tap1 x0 x1) 199 (ix3 y z n)).trans ?_
  rw [foldTo_add, sum_taps 5 5 8]
  exact Finset.sum_congr rfl fun i _ => Finset.sum_congr rfl fun j _ => Finset.sum_congr rfl fun c _ => tap1_apply x0 x1 x n hx i j c y z

theorem tap2_apply (x0 : Vec Ideal S1x1x16x20x20x64 .f32) (x1 : Vec Ideal S1x16x3x3 .f32) (x : Fin 16 → ℕ → ℕ → EReal) (n : Fin 64)
    (hx : ∀ (c : Fin 16) (u v : Fin 20), x0 (ix6 0 0 c u v n) = x c u v)
    (i j : Fin 3) (c : Fin 16) (y z : Fin 18) :
    tap2 x0 x1 ((i * 3 + j) * 16 + c) (ix3 y z n) = x1 (ix4 0 c i j) * x c (1 * y + i) (1 * z + j) := by
  have e := hx c ⟨y + i, by omega⟩ ⟨z + j, by omega⟩
  rw [one_mul, one_mul]
  refine congrArg₂ (· * ·) (congrArg x1 (idx_unit_eq _ _ fun a => ?_))
    (((cast1 _ y z n).trans (congrArg x0 (idx_unit_eq _ _ fun a => ?_))).trans e)
  · fin_cases a
    · rfl
    · show ((i.val * 3 + j.val) * 16 + c.val) % 16 + 0 = c.val
      omega
    · show ((i.val * 3 + j.val) * 16 + c.val) / 48 % 3 + 0 = i.val
      omega
    · show ((i.val * 3 + j.val) * 16 + c.val) / 16 % 3 + 0 = j.val
      omega
  · fin_cases a
    · rfl
    · rfl
    · show ((i.val * 3 + j.val) * 16 + c.val) % 16 + 0 = c.val
      omega
    · show ((i.val * 3 + j.val) * 16 + c.val) / 48 % 3 + y.val = y.val + i.val
      omega
    · show ((i.val * 3 + j.val) * 16 + c.val) / 16 % 3 + z.val = z.val + j.val
      omega
    · show 0 + n.val = n.val
      omega

/-- The third block's accumulator at a pixel of an image. -/
theorem acc2_apply (x0 : Vec Ideal S1x1x16x20x20x64 .f32) (x1 : Vec Ideal S1x16x3x3 .f32) (x2 : Vec Ideal S1x1x1 .f32)
    (x : Fin 16 → ℕ → ℕ → EReal) (n : Fin 64)
    (hx : ∀ (c : Fin 16) (u v : Fin 20), x0 (ix6 0 0 c u v n) = x c u v) (y z : Fin 18) :
    img (acc2 x0 x1 x2) n y z = Spec.conv 1 (fun c i j => x1 (ix4 0 c i j)) x (x2 (ix3 0 0 0)) y z := by
  refine congrArg₂ (· + ·) ?_ (congrArg x2 (idx_unit_eq (s := S1x1x1) _ (ix3 0 0 0) fun a => by fin_cases a <;> rfl))
  refine (foldTo_apply (fun a b : EReal => a + b) (tap2 x0 x1) 143 (ix3 y z n)).trans ?_
  rw [foldTo_add, sum_taps 3 3 16]
  exact Finset.sum_congr rfl fun i _ => Finset.sum_congr rfl fun j _ => Finset.sum_congr rfl fun c _ => tap2_apply x0 x1 x n hx i j c y z

theorem filter0 (v : Vec Ideal S8x1x1x1 .f32) (o : Fin 8) (y z : Fin 56) :
    broadcastTo S8x56x56 (shapeCast S8x1x1 (shapeCast S8 v shapeCasts_S8x1x1x1_S8) shapeCasts_S8_S8x1x1) broadcasts_S8x1x1_S8x56x56
      (ix3 o y z) = v (ix4 o 0 0 0) := by pointwise

theorem image0 (v : Vec Ideal S1x1x1x1x56x56 .f32) (o : Fin 8) (y z : Fin 56) :
    broadcastTo S8x56x56 (shapeCast S1x56x56 (shapeCast S56x56 v shapeCasts_S1x1x1x1x56x56_S56x56) shapeCasts_S56x56_S1x56x56)
      broadcasts_S1x56x56_S8x56x56 (ix3 o y z) = v (ix6 0 0 0 0 y z) := by pointwise

theorem over0V_apply (v : Vec Ideal S8x1x1 .f32) (o : Fin 8) (y z : Fin 56) : over0V v (ix3 o y z) = v (ix3 o 0 0) := by
  unfold over0V
  pointwise

theorem tap0_apply (x0 : Vec Ideal S1x4x4x3x57x57 .f32) (x1 : Vec Ideal S8x3x7x7 .f32) (x : Fin 3 → ℕ → ℕ → EReal)
    (hx : ∀ (p q : Fin 4) (c : Fin 3) (u v : Fin 57), x0 (ix6 0 p q c u v) = x c (4 * u + p) (4 * v + q))
    (i j : Fin 7) (c : Fin 3) (o : Fin 8) (y z : Fin 56) :
    tap0 x0 x1 ((i * 7 + j) * 3 + c) (ix3 o y z) = x1 (ix4 o c i j) * x c (4 * y + i) (4 * z + j) := by
  have e := hx ⟨i % 4, by omega⟩ ⟨j % 4, by omega⟩ c ⟨i / 4 + y, by omega⟩ ⟨j / 4 + z, by omega⟩
  rw [show 4 * y.val + i = 4 * (i / 4 + y) + i % 4 by omega, show 4 * z.val + j = 4 * (j / 4 + z) + j % 4 by omega]
  refine congrArg₂ (· * ·) ((filter0 _ o y z).trans (congrArg x1 (idx_unit_eq _ _ fun a => ?_)))
    (((image0 _ o y z).trans (congrArg x0 (idx_unit_eq _ _ fun a => ?_))).trans e)
  · fin_cases a
    · show 0 + o.val = o.val
      omega
    · show ((i.val * 7 + j.val) * 3 + c.val) % 3 + 0 = c.val
      omega
    · show ((i.val * 7 + j.val) * 3 + c.val) / 21 % 7 + 0 = i.val
      omega
    · show ((i.val * 7 + j.val) * 3 + c.val) / 3 % 7 + 0 = j.val
      omega
  · fin_cases a
    · rfl
    · show ((i.val * 7 + j.val) * 3 + c.val) / 21 % 7 % 4 + 0 = i.val % 4
      omega
    · show ((i.val * 7 + j.val) * 3 + c.val) / 3 % 7 % 4 + 0 = j.val % 4
      omega
    · show ((i.val * 7 + j.val) * 3 + c.val) % 3 + 0 = c.val
      omega
    · show ((i.val * 7 + j.val) * 3 + c.val) / 21 % 7 / 4 + y.val = i.val / 4 + y.val
      omega
    · show ((i.val * 7 + j.val) * 3 + c.val) / 3 % 7 / 4 + z.val = j.val / 4 + z.val
      omega

/-- One channel of the first block's accumulator. -/
def chan (acc : FVec Ideal S8x56x56 .f32) (o : Fin 8) (y z : Fin 56) : EReal := acc (ix3 o y z)

/-- The first block's accumulator at a pixel of a channel. -/
theorem acc0_apply (x0 : Vec Ideal S1x4x4x3x57x57 .f32) (x1 : Vec Ideal S8x3x7x7 .f32) (x2 : Vec Ideal S8x1x1 .f32)
    (x : Fin 3 → ℕ → ℕ → EReal)
    (hx : ∀ (p q : Fin 4) (c : Fin 3) (u v : Fin 57), x0 (ix6 0 p q c u v) = x c (4 * u + p) (4 * v + q)) (o : Fin 8) (y z : Fin 56) :
    chan (acc0 x0 x1 x2) o y z = Spec.conv 4 (fun c i j => x1 (ix4 o c i j)) x (x2 (ix3 o 0 0)) y z := by
  refine congrArg₂ (· + ·) ?_ (over0V_apply x2 o y z)
  refine (foldTo_apply (fun a b : EReal => a + b) (start0 (tap0 x0 x1)) 147 (ix3 o y z)).trans ?_
  rw [foldTo_add, Finset.sum_range_succ', sum_taps 7 7 3]
  have h0 : start0 (tap0 x0 x1) 0 (ix3 o y z) = 0 := by
    unfold start0
    pointwise
  rw [h0, add_zero]
  exact Finset.sum_congr rfl fun i _ => Finset.sum_congr rfl fun j _ => Finset.sum_congr rfl fun c _ => tap0_apply x0 x1 x hx i j c o y z

theorem mean0V_apply (acc : FVec Ideal S8x56x56 .f32) (o : Fin 8) :
    mean0V acc (ix3 o 0 0) = Spec.mean ((3136 : ℝ) : EReal) (chan acc o) := by
  unfold mean0V Spec.mean chan
  pointwise
  exact congrArg (Ideal.div _) Consts.w3136

theorem dev0V_apply (acc : FVec Ideal S8x56x56 .f32) (o : Fin 8) (y z : Fin 56) :
    dev0V acc (ix3 o y z) = chan acc o y z - Spec.mean ((3136 : ℝ) : EReal) (chan acc o) := by
  unfold dev0V
  pointwise
  rw [mean0V_apply]
  rfl

theorem firstV_apply (acc : FVec Ideal S8x56x56 .f32) (w b : Vec Ideal S8x1x1 .f32) (o : Fin 8) (y z : Fin 56) :
    firstV acc w b (ix4 0 o y z) = Spec.groupNorm ((3136 : ℝ) : EReal) (w (ix3 o 0 0)) (b (ix3 o 0 0)) (chan acc o) y z := by
  unfold firstV Spec.groupNorm
  pointwise
  rw [dev0V_apply, mean0V_apply, over0V_apply, over0V_apply]
  have e : Spec.mean ((3136 : ℝ) : EReal) (chan (mulf (dev0V acc) (dev0V acc)) o) = Spec.var ((3136 : ℝ) : EReal) (chan acc o) :=
    congrArg (Spec.mean _) (funext fun y => funext fun z => congrArg₂ (· * ·) (dev0V_apply acc o y z) (dev0V_apply acc o y z))
  obtain ⟨c, hc, ec⟩ := Consts.w_eps
  have h : 0 < Spec.var ((3136 : ℝ) : EReal) (chan acc o) + Spec.eps := by
    rw [Spec.eps, ec]
    exact Scalars.add_pos_coe (var_nonneg (by norm_num) _) hc
  rw [e, ← Scalars.mul_rsqrt h]
  rfl

end Cert.KernelIdeal.Body
-- ==== Proof.Regions.lean ====
/-
  The regions' result arrays: what each pipelined region leaves in its output array, from the arrays it finds.
-/
module

public import proofs.«01_k».proof.Proof.Conv
public import Idealize.ShloMosaic.Lib.Pipeline.ValueKit

@[expose] public section

set_option maxRecDepth 16384

noncomputable section

open Idealize.ShloMosaic Idealize.ShloMosaic.TcCoe
open Idealize.SL Idealize.SL.RA Idealize.SL.BI Idealize.SL.Sem
open Idealize.ShloMosaic.Pipeline (Dat Cfg Window)

namespace Cert.KernelIdeal.Body

open Cert.KernelIdeal Cert.KernelIdeal.Gen

variable (V : (c : Dev nD) → (b : Ref sig .tc) → Buf (Elt Ideal) ((c : Thread nD τ).loc b))

theorem e0_0 : ∀ t : Fin cfg0.N, win0_0.index t = ![(grid0.coords t 0).val, 0, 0, 0, 0, 0] := (by decide +kernel : ∀ t : Fin grid0.N, _)
theorem e0_1 : ∀ t : Fin cfg0.N, win0_1.index t = ![0, 0, 0, 0] := (by decide +kernel : ∀ t : Fin grid0.N, _)
theorem e0_2 : ∀ t : Fin cfg0.N, win0_2.index t = ![0, 0, 0] := (by decide +kernel : ∀ t : Fin grid0.N, _)
theorem e0_3 : ∀ t : Fin cfg0.N, win0_3.index t = ![0, 0, 0] := (by decide +kernel : ∀ t : Fin grid0.N, _)
theorem e0_4 : ∀ t : Fin cfg0.N, win0_4.index t = ![0, 0, 0] := (by decide +kernel : ∀ t : Fin grid0.N, _)
theorem e0_5 : ∀ t : Fin cfg0.N, win0_5.index t = ![(grid0.coords t 0).val, 0, 0, 0] := (by decide +kernel : ∀ t : Fin grid0.N, _)

/-- Grid point `t`'s coordinate. -/
abbrev pt0 (t : Fin cfg0.N) : Fin 64 := grid0.coords t 0

theorem emb0_5 (t : Fin cfg0.N) (j : S1x8x56x56.Idx) :
    (win0_5.blk t).view.emb j = ix4 (n0 := 64) (n1 := 8) (n2 := 56) (n3 := 56) (pt0 t) (j 1) (j 2) (j 3) := by
  idx_vars j
  blk_ext [e0_5]

theorem blk0_0 (c : Dev nD) (t : Fin cfg0.N) (p q : Fin 4) (k : Fin 3) (u v : Fin 57) :
    iblk0 V c 0 t (ix6 0 p q k u v) = V c (Pipeline.arrRef spec0 0) (ix6 (pt0 t) p q k u v) := by
  refine congrArg (V c (Pipeline.arrRef spec0 0)) ?_
  funext a
  apply Fin.ext
  blk_simp [e0_0]
  fin_cases a <;> simp

theorem blk0_1 (c : Dev nD) (t : Fin cfg0.N) : iblk0 V c 1 t = V c (Pipeline.arrRef spec0 1) := by
  funext j
  refine congrArg (V c (Pipeline.arrRef spec0 1)) ?_
  blk_ext [e0_1]

theorem blk0_2 (c : Dev nD) (t : Fin cfg0.N) : iblk0 V c 2 t = V c (Pipeline.arrRef spec0 2) := by
  funext j
  refine congrArg (V c (Pipeline.arrRef spec0 2)) ?_
  blk_ext [e0_2]

theorem blk0_3 (c : Dev nD) (t : Fin cfg0.N) : iblk0 V c 3 t = V c (Pipeline.arrRef spec0 3) := by
  funext j
  refine congrArg (V c (Pipeline.arrRef spec0 3)) ?_
  blk_ext [e0_3]

theorem blk0_4 (c : Dev nD) (t : Fin cfg0.N) : iblk0 V c 4 t = V c (Pipeline.arrRef spec0 4) := by
  funext j
  refine congrArg (V c (Pipeline.arrRef spec0 4)) ?_
  blk_ext [e0_4]

/-- The first block of the network on bordered images `x`. -/
def net0 (x : Fin 64 → Fin 3 → ℕ → ℕ → EReal) (w : Vec Ideal S8x3x7x7 .f32) (b g s : Vec Ideal S8x1x1 .f32) (n : Fin 64) (o : Fin 8)
    (y z : Fin 56) : EReal :=
  Spec.groupNorm ((3136 : ℝ) : EReal) (g (ix3 o 0 0)) (s (ix3 o 0 0))
    (fun y z => Spec.conv 4 (fun k a b => w (ix4 o k a b)) (x n) (b (ix3 o 0 0)) y z) y z

theorem out0_net (x0 : Vec Ideal S1x4x4x3x57x57 .f32) (x1 : Vec Ideal S8x3x7x7 .f32) (x2 x3 x4 : Vec Ideal S8x1x1 .f32)
    (x : Fin 64 → Fin 3 → ℕ → ℕ → EReal) (n : Fin 64)
    (hx : ∀ (p q : Fin 4) (c : Fin 3) (u v : Fin 57), x0 (ix6 0 p q c u v) = x n c (4 * u + p) (4 * v + q)) (j : S1x8x56x56.Idx) :
    out0_5 x0 x1 x2 x3 x4 j = net0 x x1 x2 x3 x4 n (j 1) (j 2) (j 3) := by
  rw [out0_eq]
  frame_out
  idx_vars j
  obtain rfl : j0 = 0 := Subsingleton.elim _ _
  rw [firstV_apply, show chan (acc0 x0 x1 x2) j1 = _ from funext fun y => funext fun z => acc0_apply x0 x1 x2 (x n) hx j1 y z]
  rfl

theorem arr0 (c : Dev nD) (x : Fin 64 → Fin 3 → ℕ → ℕ → EReal)
    (hx : ∀ (n : Fin 64) (p q : Fin 4) (k : Fin 3) (u v : Fin 57), V c (Pipeline.arrRef spec0 0) (ix6 n p q k u v) = x n k (4 * u + p) (4 * v + q)) :
    (dat0 V c).arrAt 5 cfg0.N = fun i : S64x8x56x56.Idx => net0 x (V c (Pipeline.arrRef spec0 1)) (V c (Pipeline.arrRef spec0 2))
      (V c (Pipeline.arrRef spec0 3)) (V c (Pipeline.arrRef spec0 4)) (i 0) (i 1) (i 2) (i 3) := by
  refine (dat0 V c).arrAt_eq_of_covers 5 _ (by decide +kernel) fun t hf y => ?_
  blk_simp
  rw [after0_5]
  refine (out0_net _ _ _ _ _ x (pt0 t) (fun p q k u v => (blk0_0 V c t p q k u v).trans (hx _ p q k u v)) y).trans ?_
  rw [blk0_1, blk0_2, blk0_3, blk0_4]
  exact (congrArg (fun i : S64x8x56x56.Idx => net0 x (V c (Pipeline.arrRef spec0 1)) (V c (Pipeline.arrRef spec0 2))
      (V c (Pipeline.arrRef spec0 3)) (V c (Pipeline.arrRef spec0 4)) (i 0) (i 1) (i 2) (i 3)) (emb0_5 t y)).symm

theorem e1_0 : ∀ t : Fin cfg1.N, win1_0.index t = ![0, 0, 0, 0, 0, 0] := (by decide +kernel : ∀ t : Fin grid1.N, _)
theorem e1_1 : ∀ t : Fin cfg1.N, win1_1.index t = ![(grid1.coords t 0).val, 0, 0, 0] := (by decide +kernel : ∀ t : Fin grid1.N, _)
theorem e1_2 : ∀ t : Fin cfg1.N, win1_2.index t = ![(grid1.coords t 0).val, 0, 0] := (by decide +kernel : ∀ t : Fin grid1.N, _)
theorem e1_3 : ∀ t : Fin cfg1.N, win1_3.index t = ![(grid1.coords t 0).val, 0, 0] := (by decide +kernel : ∀ t : Fin grid1.N, _)
theorem e1_4 : ∀ t : Fin cfg1.N, win1_4.index t = ![(grid1.coords t 0).val, 0, 0] := (by decide +kernel : ∀ t : Fin grid1.N, _)
theorem e1_5 : ∀ t : Fin cfg1.N, win1_5.index t = ![(grid1.coords t 0).val, 0, 0, 0] := (by decide +kernel : ∀ t : Fin grid1.N, _)

/-- Grid point `t`'s coordinate: the output channel. -/
abbrev pt1 (t : Fin cfg1.N) : Fin 16 := grid1.coords t 0

theorem emb1_5 (t : Fin cfg1.N) (j : S1x18x18x64.Idx) :
    (win1_5.blk t).view.emb j = ix4 (n0 := 16) (n1 := 18) (n2 := 18) (n3 := 64) (pt1 t) (j 1) (j 2) (j 3) := by
  idx_vars j
  blk_ext [e1_5]

theorem blk1_0 (c : Dev nD) (t : Fin cfg1.N) : iblk1 V c 0 t = V c (Pipeline.arrRef spec1 0) := by
  funext j
  refine congrArg (V c (Pipeline.arrRef spec1 0)) ?_
  blk_ext [e1_0]

theorem blk1_1 (c : Dev nD) (t : Fin cfg1.N) (k : Fin 8) (a b : Fin 5) :
    iblk1 V c 1 t (ix4 0 k a b) = V c (Pipeline.arrRef spec1 1) (ix4 (pt1 t) k a b) := by
  refine congrArg (V c (Pipeline.arrRef spec1 1)) ?_
  funext d
  apply Fin.ext
  blk_simp [e1_1]
  fin_cases d <;> simp

theorem blk1_2 (c : Dev nD) (t : Fin cfg1.N) :
    iblk1 V c 2 t (ix3 0 0 0) = V c (Pipeline.arrRef spec1 2) (ix3 (pt1 t) 0 0) := by
  refine congrArg (V c (Pipeline.arrRef spec1 2)) ?_
  funext d
  apply Fin.ext
  blk_simp [e1_2]
  fin_cases d <;> simp

theorem blk1_3 (c : Dev nD) (t : Fin cfg1.N) :
    iblk1 V c 3 t (ix3 0 0 0) = V c (Pipeline.arrRef spec1 3) (ix3 (pt1 t) 0 0) := by
  refine congrArg (V c (Pipeline.arrRef spec1 3)) ?_
  funext d
  apply Fin.ext
  blk_simp [e1_3]
  fin_cases d <;> simp

theorem blk1_4 (c : Dev nD) (t : Fin cfg1.N) :
    iblk1 V c 4 t (ix3 0 0 0) = V c (Pipeline.arrRef spec1 4) (ix3 (pt1 t) 0 0) := by
  refine congrArg (V c (Pipeline.arrRef spec1 4)) ?_
  funext d
  apply Fin.ext
  blk_simp [e1_4]
  fin_cases d <;> simp

/-- The second block of the network on bordered images `x`. -/
def net1 (x : Fin 64 → Fin 8 → ℕ → ℕ → EReal) (w : Vec Ideal S16x8x5x5 .f32) (b g s : Vec Ideal S16x1x1 .f32) (o : Fin 16)
    (y z : Fin 18) (n : Fin 64) : EReal :=
  Spec.entNorm (g (ix3 o 0 0)) (s (ix3 o 0 0))
    (fun y z => Spec.conv 3 (fun k a b => w (ix4 o k a b)) (x n) (b (ix3 o 0 0)) y z) y z

theorem out1_net (x0 : Vec Ideal S3x3x8x20x20x64 .f32) (x1 : Vec Ideal S1x8x5x5 .f32) (x2 x3 x4 : Vec Ideal S1x1x1 .f32)
    (x : Fin 64 → Fin 8 → ℕ → ℕ → EReal) (w : Vec Ideal S16x8x5x5 .f32) (b g s : Vec Ideal S16x1x1 .f32) (o : Fin 16)
    (hx : ∀ (n : Fin 64) (p q : Fin 3) (c : Fin 8) (u v : Fin 20), x0 (ix6 p q c u v n) = x n c (3 * u + p) (3 * v + q))
    (hw : ∀ k a b, x1 (ix4 0 k a b) = w (ix4 o k a b)) (hb : x2 (ix3 0 0 0) = b (ix3 o 0 0)) (hg : x3 (ix3 0 0 0) = g (ix3 o 0 0))
    (hs : x4 (ix3 0 0 0) = s (ix3 o 0 0)) (j : S1x18x18x64.Idx) :
    out1_5 x0 x1 x2 x3 x4 j = net1 x w b g s o (j 1) (j 2) (j 3) := by
  rw [out1_eq]
  frame_out
  idx_vars j
  obtain rfl : j0 = 0 := Subsingleton.elim _ _
  rw [midV_apply, show img (acc1 x0 x1 x2) j3 = _ from funext fun y => funext fun z => acc1_apply x0 x1 x2 (x j3) j3 (hx j3) y z, hb, hg, hs,
    show (fun k a b => x1 (ix4 0 k a b)) = _ from funext fun k => funext fun a => funext fun b => hw k a b]
  rfl

theorem arr1 (c : Dev nD) (x : Fin 64 → Fin 8 → ℕ → ℕ → EReal)
    (hx : ∀ (n : Fin 64) (p q : Fin 3) (k : Fin 8) (u v : Fin 20), V c (Pipeline.arrRef spec1 0) (ix6 p q k u v n) = x n k (3 * u + p) (3 * v + q)) :
    (dat1 V c).arrAt 5 cfg1.N = fun i : S16x18x18x64.Idx => net1 x (V c (Pipeline.arrRef spec1 1)) (V c (Pipeline.arrRef spec1 2))
      (V c (Pipeline.arrRef spec1 3)) (V c (Pipeline.arrRef spec1 4)) (i 0) (i 1) (i 2) (i 3) := by
  refine (dat1 V c).arrAt_eq_of_covers 5 _ (by decide +kernel) fun t hf y => ?_
  blk_simp
  rw [after1_5, blk1_0]
  refine (out1_net _ _ _ _ _ x _ _ _ _ (pt1 t) hx (blk1_1 V c t) (blk1_2 V c t) (blk1_3 V c t) (blk1_4 V c t) y).trans ?_
  exact (congrArg (fun i : S16x18x18x64.Idx => net1 x (V c (Pipeline.arrRef spec1 1)) (V c (Pipeline.arrRef spec1 2))
      (V c (Pipeline.arrRef spec1 3)) (V c (Pipeline.arrRef spec1 4)) (i 0) (i 1) (i 2) (i 3)) (emb1_5 t y)).symm

theorem e2_0 : ∀ t : Fin cfg2.N, win2_0.index t = ![0, 0, 0, 0, 0, 0] := (by decide +kernel : ∀ t : Fin grid2.N, _)
theorem e2_1 : ∀ t : Fin cfg2.N, win2_1.index t = ![(grid2.coords t 0).val, 0, 0, 0] := (by decide +kernel : ∀ t : Fin grid2.N, _)
theorem e2_2 : ∀ t : Fin cfg2.N, win2_2.index t = ![(grid2.coords t 0).val, 0, 0] := (by decide +kernel : ∀ t : Fin grid2.N, _)
theorem e2_3 : ∀ t : Fin cfg2.N, win2_3.index t = ![(grid2.coords t 0).val, 0, 0] := (by decide +kernel : ∀ t : Fin grid2.N, _)
theorem e2_4 : ∀ t : Fin cfg2.N, win2_4.index t = ![(grid2.coords t 0).val, 0, 0] := (by decide +kernel : ∀ t : Fin grid2.N, _)
theorem e2_5 : ∀ t : Fin cfg2.N, win2_5.index t = ![(grid2.coords t 0).val, 0, 0, 0] := (by decide +kernel : ∀ t : Fin grid2.N, _)

/-- Grid point `t`'s coordinate: the output channel. -/
abbrev pt2 (t : Fin cfg2.N) : Fin 32 := grid2.coords t 0

theorem emb2_5 (t : Fin cfg2.N) (j : S1x18x18x64.Idx) :
    (win2_5.blk t).view.emb j = ix4 (n0 := 32) (n1 := 18) (n2 := 18) (n3 := 64) (pt2 t) (j 1) (j 2) (j 3) := by
  idx_vars j
  blk_ext [e2_5]

theorem blk2_0 (c : Dev nD) (t : Fin cfg2.N) : iblk2 V c 0 t = V c (Pipeline.arrRef spec2 0) := by
  funext j
  refine congrArg (V c (Pipeline.arrRef spec2 0)) ?_
  blk_ext [e2_0]

theorem blk2_1 (c : Dev nD) (t : Fin cfg2.N) (k : Fin 16) (a b : Fin 3) :
    iblk2 V c 1 t (ix4 0 k a b) = V c (Pipeline.arrRef spec2 1) (ix4 (pt2 t) k a b) := by
  refine congrArg (V c (Pipeline.arrRef spec2 1)) ?_
  funext d
  apply Fin.ext
  blk_simp [e2_1]
  fin_cases d <;> simp

theorem blk2_2 (c : Dev nD) (t : Fin cfg2.N) :
    iblk2 V c 2 t (ix3 0 0 0) = V c (Pipeline.arrRef spec2 2) (ix3 (pt2 t) 0 0) := by
  refine congrArg (V c (Pipeline.arrRef spec2 2)) ?_
  funext d
  apply Fin.ext
  blk_simp [e2_2]
  fin_cases d <;> simp

theorem blk2_3 (c : Dev nD) (t : Fin cfg2.N) :
    iblk2 V c 3 t (ix3 0 0 0) = V c (Pipeline.arrRef spec2 3) (ix3 (pt2 t) 0 0) := by
  refine congrArg (V c (Pipeline.arrRef spec2 3)) ?_
  funext d
  apply Fin.ext
  blk_simp [e2_3]
  fin_cases d <;> simp

theorem blk2_4 (c : Dev nD) (t : Fin cfg2.N) :
    iblk2 V c 4 t (ix3 0 0 0) = V c (Pipeline.arrRef spec2 4) (ix3 (pt2 t) 0 0) := by
  refine congrArg (V c (Pipeline.arrRef spec2 4)) ?_
  funext d
  apply Fin.ext
  blk_simp [e2_4]
  fin_cases d <;> simp

/-- The third block of the network on bordered images `x`. -/
def net2 (x : Fin 64 → Fin 16 → ℕ → ℕ → EReal) (w : Vec Ideal S32x16x3x3 .f32) (b g s : Vec Ideal S32x1x1 .f32) (o : Fin 32)
    (y z : Fin 18) (n : Fin 64) : EReal :=
  Spec.entNorm (g (ix3 o 0 0)) (s (ix3 o 0 0))
    (fun y z => Spec.conv 1 (fun k a b => w (ix4 o k a b)) (x n) (b (ix3 o 0 0)) y z) y z

theorem out2_net (x0 : Vec Ideal S1x1x16x20x20x64 .f32) (x1 : Vec Ideal S1x16x3x3 .f32) (x2 x3 x4 : Vec Ideal S1x1x1 .f32)
    (x : Fin 64 → Fin 16 → ℕ → ℕ → EReal) (w : Vec Ideal S32x16x3x3 .f32) (b g s : Vec Ideal S32x1x1 .f32) (o : Fin 32)
    (hx : ∀ (n : Fin 64) (c : Fin 16) (u v : Fin 20), x0 (ix6 0 0 c u v n) = x n c u v)
    (hw : ∀ k a b, x1 (ix4 0 k a b) = w (ix4 o k a b)) (hb : x2 (ix3 0 0 0) = b (ix3 o 0 0)) (hg : x3 (ix3 0 0 0) = g (ix3 o 0 0))
    (hs : x4 (ix3 0 0 0) = s (ix3 o 0 0)) (j : S1x18x18x64.Idx) :
    out2_5 x0 x1 x2 x3 x4 j = net2 x w b g s o (j 1) (j 2) (j 3) := by
  rw [out2_eq]
  frame_out
  idx_vars j
  obtain rfl : j0 = 0 := Subsingleton.elim _ _
  rw [midV_apply, show img (acc2 x0 x1 x2) j3 = _ from funext fun y => funext fun z => acc2_apply x0 x1 x2 (x j3) j3 (hx j3) y z, hb, hg, hs,
    show (fun k a b => x1 (ix4 0 k a b)) = _ from funext fun k => funext fun a => funext fun b => hw k a b]
  rfl

theorem arr2 (c : Dev nD) (x : Fin 64 → Fin 16 → ℕ → ℕ → EReal)
    (hx : ∀ (n : Fin 64) (k : Fin 16) (u v : Fin 20), V c (Pipeline.arrRef spec2 0) (ix6 0 0 k u v n) = x n k u v) :
    (dat2 V c).arrAt 5 cfg2.N = fun i : S32x18x18x64.Idx => net2 x (V c (Pipeline.arrRef spec2 1)) (V c (Pipeline.arrRef spec2 2))
      (V c (Pipeline.arrRef spec2 3)) (V c (Pipeline.arrRef spec2 4)) (i 0) (i 1) (i 2) (i 3) := by
  refine (dat2 V c).arrAt_eq_of_covers 5 _ (by decide +kernel) fun t hf y => ?_
  blk_simp
  rw [after2_5, blk2_0]
  refine (out2_net _ _ _ _ _ x _ _ _ _ (pt2 t) hx (blk2_1 V c t) (blk2_2 V c t) (blk2_3 V c t) (blk2_4 V c t) y).trans ?_
  exact (congrArg (fun i : S32x18x18x64.Idx => net2 x (V c (Pipeline.arrRef spec2 1)) (V c (Pipeline.arrRef spec2 2))
      (V c (Pipeline.arrRef spec2 3)) (V c (Pipeline.arrRef spec2 4)) (i 0) (i 1) (i 2) (i 3)) (emb2_5 t y)).symm

end Cert.KernelIdeal.Body
-- ==== Proof.Net.lean ====
/-
  The whole network over the extended reals: three convolution blocks, the batch normalisation of the flattened images, one
  dense layer and two softmax heads.
-/
module

public import proofs.«01_k».proof.Proof.Spec
public import Idealize.ShloMosaic.Lib.Pointwise

@[expose] public section

noncomputable section

open Idealize.ShloMosaic

namespace Cert.Spec

/-- A vector's entries. -/
def at1 {n : ℕ} (a : (⟨1, ![n]⟩ : Shape).Idx → EReal) (i : Fin n) : EReal := a (ix1 i)

/-- A matrix's entries. -/
def at2 {n k : ℕ} (a : (⟨2, ![n, k]⟩ : Shape).Idx → EReal) (i : Fin n) (j : Fin k) : EReal := a (ix2 i j)

/-- The entries of an array of rank 4. -/
def at4 {n0 n1 n2 n3 : ℕ} (a : (⟨4, ![n0, n1, n2, n3]⟩ : Shape).Idx → EReal) (i : Fin n0) (j : Fin n1) (k : Fin n2) (l : Fin n3) : EReal :=
  a (ix4 i j k l)

/-- The first block: a convolution of stride 4 and its normalisation. -/
def first (w : Fin 8 → Fin 3 → Fin 7 → Fin 7 → EReal) (b g s : Fin 8 → EReal) (x : Fin 64 → Fin 3 → Fin 224 → Fin 224 → EReal)
    (n : Fin 64) (o : Fin 8) (y z : Fin 56) : EReal :=
  groupNorm ((3136 : ℝ) : EReal) (g o) (s o) (fun y z : Fin 56 => conv 4 (w o) (fun k => border 2 224 (x n k)) (b o) y z) y z

/-- The second block: a convolution of stride 3 and its normalisation weighted by entropy. -/
def second (w : Fin 16 → Fin 8 → Fin 5 → Fin 5 → EReal) (b g s : Fin 16 → EReal) (x : Fin 64 → Fin 8 → Fin 56 → Fin 56 → EReal)
    (n : Fin 64) (o : Fin 16) (y z : Fin 18) : EReal :=
  entNorm (g o) (s o) (fun y z : Fin 18 => conv 3 (w o) (fun k => border 1 56 (x n k)) (b o) y z) y z

/-- The third block: a convolution of stride 1 and its normalisation weighted by entropy. -/
def third (w : Fin 32 → Fin 16 → Fin 3 → Fin 3 → EReal) (b g s : Fin 32 → EReal) (x : Fin 64 → Fin 16 → Fin 18 → Fin 18 → EReal)
    (n : Fin 64) (o : Fin 32) (y z : Fin 18) : EReal :=
  entNorm (g o) (s o) (fun y z : Fin 18 => conv 1 (w o) (fun k => border 1 18 (x n k)) (b o) y z) y z

/-- The images of one sample as one row. -/
def flat (x : Fin 64 → Fin 32 → Fin 18 → Fin 18 → EReal) (n : Fin 64) (f : Fin 10368) : EReal :=
  x n ⟨f / 324, by omega⟩ ⟨f / 18 % 18, by omega⟩ ⟨f % 18, by omega⟩

/-- The mean over the batch. -/
def bmean (v : Fin 64 → EReal) : EReal := Ideal.div (∑ n, v n) ((64 : ℝ) : EReal)

/-- The variance over the batch. -/
def bvar (v : Fin 64 → EReal) : EReal := bmean fun n => (v n - bmean v) * (v n - bmean v)

/-- Batch normalisation of one feature. -/
def batchNorm (w b : EReal) (v : Fin 64 → EReal) (n : Fin 64) : EReal :=
  Ideal.div (v n - bmean v) (Ideal.sqrt (bvar v + eps)) * w + b

/-- A dense layer's output `o`. -/
def dense {I O : ℕ} (w : Fin O → Fin I → EReal) (b : Fin O → EReal) (x : Fin I → EReal) (o : Fin O) : EReal :=
  (∑ i, x i * w o i) + b o

/-- The hidden layer of a sample: the rectified dense layer of its normalised features. -/
def hidden (g s : Fin 10368 → EReal) (w : Fin 32 → Fin 10368 → EReal) (b : Fin 32 → EReal) (x : Fin 64 → Fin 10368 → EReal)
    (n : Fin 64) (o : Fin 32) : EReal :=
  max (dense w b (fun f => batchNorm (g f) (s f) (fun n => x n f) n) o) 0

/-- The softmax of a row. -/
def softmax {k : ℕ} (v : Fin k → EReal) (i : Fin k) : EReal :=
  Ideal.div (Ideal.exp (v i - Finset.univ.sup v)) (∑ j, Ideal.exp (v j - Finset.univ.sup v))

/-- The softmax of a row, from the row's greatest value. -/
theorem softmax_of {k : ℕ} (v : Fin k → EReal) (i : Fin k) (t : EReal) (ht : t = Finset.univ.sup v) :
    Ideal.div (Ideal.exp (v i - t)) (∑ j, Ideal.exp (v j - t)) = softmax v i := by
  subst ht
  rfl

/-- The network's hidden layer of a batch of images. -/
def trunk (x : Fin 64 → Fin 32 → Fin 18 → Fin 18 → EReal) (g s : Fin 10368 → EReal) (w : Fin 32 → Fin 10368 → EReal) (b : Fin 32 → EReal) :
    Fin 64 → Fin 32 → EReal := hidden g s w b (flat x)

end Cert.Spec
-- ==== Proof.Phases.lean ====
/-
  What the host makes of images and parameters before a region: bordered images split by stride phase, and columns.
-/
module

public import proofs.«01_k».proof.Proof.Regions
public import proofs.«01_k».proof.Proof.Net

@[expose] public section

set_option maxRecDepth 16384

noncomputable section

open Idealize.ShloMosaic Idealize.ShloMosaic.TcCoe Idealize.ShloMosaic.Tactic
open Idealize.SL Idealize.SL.RA Idealize.SL.BI Idealize.SL.Sem

namespace Cert.KernelIdeal.Body

open Cert.KernelIdeal Cert.KernelIdeal.Gen

/-- The zero the borders are filled with. -/
def zeroV : FVec Ideal S_ .f32 := sitofp .f32 (constantI S_ 32 0#32)

/-- The first block's images, bordered and split by stride phase. -/
def phases0 (x : FVec Ideal S64x3x224x224 .f32) : FVec Ideal S64x4x4x3x57x57 .f32 :=
  transpose S64x4x4x3x57x57 [0, 3, 5, 1, 2, 4] (shapeCast S64x3x57x4x57x4
    (pad S64x3x228x228 ![0, 0, 2, 2] ![0, 0, 2, 2] ![0, 0, 0, 0] x zeroV pads_S64x3x224x224_S64x3x228x228_000_000_220_220 h_S_)
    shapeCasts_S64x3x228x228_S64x3x57x4x57x4) transposes_S64x3x57x4x57x4_S64x4x4x3x57x57_0_3_5_1_2_4

theorem zero_eq : (FloatOps.sitofp .f32 0#32 : Ideal .f32) = (0 : EReal) := by
  show (((0#32 : BitVec 32).toInt : ℝ) : EReal) = 0
  simp

theorem phases0_apply (x : FVec Ideal S64x3x224x224 .f32) (n : Fin 64) (p q : Fin 4) (k : Fin 3) (u v : Fin 57) :
    phases0 x (ix6 n p q k u v) = Spec.border 2 224 (Spec.at4 x n k) (4 * u + p) (4 * v + q) := by
  unfold phases0 zeroV Spec.border Spec.at4
  simp only [Nat.mul_comm 4]
  pointwise
  rw [zero_eq]

/-- The second block's images, bordered and split by stride phase. -/
def phases1 (x : FVec Ideal S64x8x56x56 .f32) : FVec Ideal S3x3x8x20x20x64 .f32 :=
  transpose S3x3x8x20x20x64 [3, 5, 1, 2, 4, 0] (shapeCast S64x8x20x3x20x3
    (pad S64x8x60x60 ![0, 0, 1, 1] ![0, 0, 3, 3] ![0, 0, 0, 0] x zeroV pads_S64x8x56x56_S64x8x60x60_000_000_130_130 h_S_)
    shapeCasts_S64x8x60x60_S64x8x20x3x20x3) transposes_S64x8x20x3x20x3_S3x3x8x20x20x64_3_5_1_2_4_0

theorem phases1_apply (x : FVec Ideal S64x8x56x56 .f32) (n : Fin 64) (p q : Fin 3) (k : Fin 8) (u v : Fin 20) :
    phases1 x (ix6 p q k u v n) = Spec.border 1 56 (Spec.at4 x n k) (3 * u + p) (3 * v + q) := by
  unfold phases1 zeroV Spec.border Spec.at4
  simp only [Nat.mul_comm 3]
  pointwise
  rw [zero_eq]

/-- The third block's images, bordered; the sample is counted last. -/
def phases2 (x : FVec Ideal S16x18x18x64 .f32) : FVec Ideal S1x1x16x20x20x64 .f32 :=
  shapeCast S1x1x16x20x20x64
    (pad S16x20x20x64 ![0, 1, 1, 0] ![0, 1, 1, 0] ![0, 0, 0, 0] x zeroV pads_S16x18x18x64_S16x20x20x64_000_110_110_000 h_S_)
    shapeCasts_S16x20x20x64_S1x1x16x20x20x64

theorem phases2_apply (x : FVec Ideal S16x18x18x64 .f32) (n : Fin 64) (k : Fin 16) (u v : Fin 20) :
    phases2 x (ix6 0 0 k u v n) = Spec.border 1 18 (fun y z => x (ix4 k y z n)) u v := by
  unfold phases2 zeroV Spec.border
  pointwise
  rw [zero_eq]

/-! A parameter's vector as the column the regions read. -/

theorem col8 (a : FVec Ideal S8 .f32) (o : Fin 8) : shapeCast S8x1x1 a shapeCasts_S8_S8x1x1 (ix3 o 0 0) = Spec.at1 a o := by
  unfold Spec.at1
  pointwise

theorem col16 (a : FVec Ideal S16 .f32) (o : Fin 16) : shapeCast S16x1x1 a shapeCasts_S16_S16x1x1 (ix3 o 0 0) = Spec.at1 a o := by
  unfold Spec.at1
  pointwise

theorem col32 (a : FVec Ideal S32 .f32) (o : Fin 32) : shapeCast S32x1x1 a shapeCasts_S32_S32x1x1 (ix3 o 0 0) = Spec.at1 a o := by
  unfold Spec.at1
  pointwise

/-! The regions' values on columns of parameters are the blocks of the network. -/

theorem net0_first (x : Fin 64 → Fin 3 → Fin 224 → Fin 224 → EReal) (w : FVec Ideal S8x3x7x7 .f32) (b g s : FVec Ideal S8 .f32) (n : Fin 64)
    (o : Fin 8) (y z : Fin 56) :
    net0 (fun n k => Spec.border 2 224 (x n k)) w (shapeCast S8x1x1 b shapeCasts_S8_S8x1x1) (shapeCast S8x1x1 g shapeCasts_S8_S8x1x1)
      (shapeCast S8x1x1 s shapeCasts_S8_S8x1x1) n o y z = Spec.first (Spec.at4 w) (Spec.at1 b) (Spec.at1 g) (Spec.at1 s) x n o y z := by
  unfold net0
  rw [col8, col8, col8]
  rfl

theorem net1_second (x : Fin 64 → Fin 8 → Fin 56 → Fin 56 → EReal) (w : FVec Ideal S16x8x5x5 .f32) (b g s : FVec Ideal S16 .f32) (n : Fin 64)
    (o : Fin 16) (y z : Fin 18) :
    net1 (fun n k => Spec.border 1 56 (x n k)) w (shapeCast S16x1x1 b shapeCasts_S16_S16x1x1) (shapeCast S16x1x1 g shapeCasts_S16_S16x1x1)
      (shapeCast S16x1x1 s shapeCasts_S16_S16x1x1) o y z n = Spec.second (Spec.at4 w) (Spec.at1 b) (Spec.at1 g) (Spec.at1 s) x n o y z := by
  unfold net1
  rw [col16, col16, col16]
  rfl

theorem net2_third (x : Fin 64 → Fin 16 → Fin 18 → Fin 18 → EReal) (w : FVec Ideal S32x16x3x3 .f32) (b g s : FVec Ideal S32 .f32) (n : Fin 64)
    (o : Fin 32) (y z : Fin 18) :
    net2 (fun n k => Spec.border 1 18 (x n k)) w (shapeCast S32x1x1 b shapeCasts_S32_S32x1x1) (shapeCast S32x1x1 g shapeCasts_S32_S32x1x1)
      (shapeCast S32x1x1 s shapeCasts_S32_S32x1x1) o y z n = Spec.third (Spec.at4 w) (Spec.at1 b) (Spec.at1 g) (Spec.at1 s) x n o y z := by
  unfold net2
  rw [col32, col32, col32]
  rfl

end Cert.KernelIdeal.Body
-- ==== Proof.Last.lean ====
/-
  The last region: batch normalisation, the dense layer and the two softmax heads of the kernel.
-/
module

public import proofs.«01_k».proof.Proof.Phases
public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI Idealize.SL.Sem

namespace Cert.KernelIdeal.Body

open Cert.KernelIdeal Cert.KernelIdeal.Gen

/-- A row's entries. -/
def row {k : ℕ} (a : (⟨2, ![1, k]⟩ : Shape).Idx → EReal) (i : Fin k) : EReal := a (ix2 0 i)

theorem hidden_apply (x : Vec Ideal S64x10368 .f32) (g s : Vec Ideal S1x10368 .f32) (w : Vec Ideal S32x10368 .f32) (b : Vec Ideal S1x32 .f32)
    (n : Fin 64) (o : Fin 32) : k3_pay3 x g s w b (ix2 n o) = Spec.hidden (row g) (row s) (Spec.at2 w) (row b) (Spec.at2 x) n o := by
  unfold k3_pay3
  pointwise
  refine congrArg (fun t : EReal => max (t + b (ix2 0 o)) 0) (Finset.sum_congr rfl fun f _ => congrArg (· * w (ix2 o f)) ?_)
  obtain ⟨c, hc, ec⟩ := Consts.w_eps
  have h : 0 < Spec.bvar (fun n => x (ix2 n f)) + Spec.eps := by
    rw [Spec.eps, ec]
    exact Scalars.add_pos_coe (Scalars.div_nonneg (Finset.sum_nonneg fun _ _ => Scalars.mul_self_nonneg _) (by norm_num)) hc
  rw [Consts.w64]
  exact congrArg (fun t : EReal => t * g (ix2 0 f) + s (ix2 0 f)) (Scalars.mul_rsqrt h (x (ix2 n f) - Spec.bmean fun n => x (ix2 n f)))

theorem head5_apply (v : FVec Ideal S64x5 .f32) (b : FVec Ideal S1x5 .f32) (n : Fin 64) (i : Fin 5) :
    k3_pay1 b v (ix2 n i) = Spec.softmax (fun i => v (ix2 n i) + row b i) i := by
  unfold k3_pay1
  pointwise
  exact Spec.softmax_of (fun i => v (ix2 n i) + row b i) i _ (by rw [Consts.w_bot]; rfl)

theorem head2_apply (h : FVec Ideal S64x32 .f32) (w : Vec Ideal S2x32 .f32) (b : Vec Ideal S1x2 .f32) (n : Fin 64) (i : Fin 2) :
    k3_pay2 h w b (ix2 n i) = Spec.softmax (Spec.dense (Spec.at2 w) (row b) (Spec.at2 h n)) i := by
  unfold k3_pay2
  pointwise
  exact Spec.softmax_of (Spec.dense (Spec.at2 w) (row b) (Spec.at2 h n)) i _ (by rw [Consts.w_bot]; rfl)

theorem dense5_apply (x : Vec Ideal S64x10368 .f32) (g s : Vec Ideal S1x10368 .f32) (w : Vec Ideal S32x10368 .f32) (b : Vec Ideal S1x32 .f32)
    (v : Vec Ideal S5x32 .f32) (n : Fin 64) (i : Fin 5) :
    k3_pay5 x g s w b v (ix2 n i) = ∑ o, k3_pay3 x g s w b (ix2 n o) * v (ix2 i o) := by
  unfold k3_pay5
  pointwise

theorem bias5_apply (b : Vec Ideal S1x5 .f32) (i : Fin 5) : k3_pay4 b (ix2 0 i) = b (ix2 0 i) := by
  unfold k3_pay4
  pointwise

/-! ### The two results of the region, of its arrays -/

/-- The first head of the network on rows `x`. -/
def head5 (x : Fin 64 → Fin 10368 → EReal) (g s : Vec Ideal S1x10368 .f32) (w : Vec Ideal S32x10368 .f32) (b : Vec Ideal S1x32 .f32)
    (v : Vec Ideal S5x32 .f32) (c : Vec Ideal S1x5 .f32) (n : Fin 64) (i : Fin 5) : EReal :=
  Spec.softmax (Spec.dense (Spec.at2 v) (row c) (Spec.hidden (row g) (row s) (Spec.at2 w) (row b) x n)) i

/-- The second head of the network on rows `x`. -/
def head2 (x : Fin 64 → Fin 10368 → EReal) (g s : Vec Ideal S1x10368 .f32) (w : Vec Ideal S32x10368 .f32) (b : Vec Ideal S1x32 .f32)
    (v : Vec Ideal S2x32 .f32) (c : Vec Ideal S1x2 .f32) (n : Fin 64) (i : Fin 2) : EReal :=
  Spec.softmax (Spec.dense (Spec.at2 v) (row c) (Spec.hidden (row g) (row s) (Spec.at2 w) (row b) x n)) i

theorem out9_apply (x0 : Vec Ideal S64x10368 .f32) (x1 x2 : Vec Ideal S1x10368 .f32) (x3 : Vec Ideal S32x10368 .f32) (x4 : Vec Ideal S1x32 .f32)
    (x5 : Vec Ideal S5x32 .f32) (x6 : Vec Ideal S1x5 .f32) (x7 : Vec Ideal S2x32 .f32) (x8 : Vec Ideal S1x2 .f32) (n : Fin 64) (i : Fin 5) :
    out3_9 x0 x1 x2 x3 x4 x5 x6 x7 x8 (ix2 n i) = head5 (Spec.at2 x0) x1 x2 x3 x4 x5 x6 n i := by
  unfold out3_9
  frame_out
  rw [head5_apply]
  refine congrArg (Spec.softmax · i) (funext fun i => ?_)
  rw [dense5_apply, row, bias5_apply]
  exact congrArg (· + x6 (ix2 0 i)) (Finset.sum_congr rfl fun o _ => congrArg (· * x5 (ix2 i o)) (hidden_apply x0 x1 x2 x3 x4 n o))

theorem out10_apply (x0 : Vec Ideal S64x10368 .f32) (x1 x2 : Vec Ideal S1x10368 .f32) (x3 : Vec Ideal S32x10368 .f32) (x4 : Vec Ideal S1x32 .f32)
    (x5 : Vec Ideal S5x32 .f32) (x6 : Vec Ideal S1x5 .f32) (x7 : Vec Ideal S2x32 .f32) (x8 : Vec Ideal S1x2 .f32) (n : Fin 64) (i : Fin 2) :
    out3_10 x0 x1 x2 x3 x4 x5 x6 x7 x8 (ix2 n i) = head2 (Spec.at2 x0) x1 x2 x3 x4 x7 x8 n i := by
  unfold out3_10
  frame_out
  rw [head2_apply, head2]
  exact congrArg (fun h => Spec.softmax (Spec.dense (Spec.at2 x7) (row x8) h) i) (funext fun o => hidden_apply x0 x1 x2 x3 x4 n o)

variable (V : (c : Dev nD) → (b : Ref sig .tc) → Buf (Elt Ideal) ((c : Thread nD τ).loc b))

theorem e3_0 : ∀ t : Fin cfg3.N, win3_0.index t = ![0, 0] := (by decide +kernel : ∀ t : Fin grid3.N, _)
theorem e3_1 : ∀ t : Fin cfg3.N, win3_1.index t = ![0, 0] := (by decide +kernel : ∀ t : Fin grid3.N, _)
theorem e3_2 : ∀ t : Fin cfg3.N, win3_2.index t = ![0, 0] := (by decide +kernel : ∀ t : Fin grid3.N, _)
theorem e3_3 : ∀ t : Fin cfg3.N, win3_3.index t = ![0, 0] := (by decide +kernel : ∀ t : Fin grid3.N, _)
theorem e3_4 : ∀ t : Fin cfg3.N, win3_4.index t = ![0, 0] := (by decide +kernel : ∀ t : Fin grid3.N, _)
theorem e3_5 : ∀ t : Fin cfg3.N, win3_5.index t = ![0, 0] := (by decide +kernel : ∀ t : Fin grid3.N, _)
theorem e3_6 : ∀ t : Fin cfg3.N, win3_6.index t = ![0, 0] := (by decide +kernel : ∀ t : Fin grid3.N, _)
theorem e3_7 : ∀ t : Fin cfg3.N, win3_7.index t = ![0, 0] := (by decide +kernel : ∀ t : Fin grid3.N, _)
theorem e3_8 : ∀ t : Fin cfg3.N, win3_8.index t = ![0, 0] := (by decide +kernel : ∀ t : Fin grid3.N, _)
theorem e3_9 : ∀ t : Fin cfg3.N, win3_9.index t = ![0, 0] := (by decide +kernel : ∀ t : Fin grid3.N, _)
theorem e3_10 : ∀ t : Fin cfg3.N, win3_10.index t = ![0, 0] := (by decide +kernel : ∀ t : Fin grid3.N, _)

theorem blk3_0 (c : Dev nD) (t : Fin cfg3.N) : iblk3 V c 0 t = V c (Pipeline.arrRef spec3 0) := by
  funext j
  refine congrArg (V c (Pipeline.arrRef spec3 0)) ?_
  blk_ext [e3_0]

theorem blk3_1 (c : Dev nD) (t : Fin cfg3.N) : iblk3 V c 1 t = V c (Pipeline.arrRef spec3 1) := by
  funext j
  refine congrArg (V c (Pipeline.arrRef spec3 1)) ?_
  blk_ext [e3_1]

theorem blk3_2 (c : Dev nD) (t : Fin cfg3.N) : iblk3 V c 2 t = V c (Pipeline.arrRef spec3 2) := by
  funext j
  refine congrArg (V c (Pipeline.arrRef spec3 2)) ?_
  blk_ext [e3_2]

theorem blk3_3 (c : Dev nD) (t : Fin cfg3.N) : iblk3 V c 3 t = V c (Pipeline.arrRef spec3 3) := by
  funext j
  refine congrArg (V c (Pipeline.arrRef spec3 3)) ?_
  blk_ext [e3_3]

theorem blk3_4 (c : Dev nD) (t : Fin cfg3.N) : iblk3 V c 4 t = V c (Pipeline.arrRef spec3 4) := by
  funext j
  refine congrArg (V c (Pipeline.arrRef spec3 4)) ?_
  blk_ext [e3_4]

theorem blk3_5 (c : Dev nD) (t : Fin cfg3.N) : iblk3 V c 5 t = V c (Pipeline.arrRef spec3 5) := by
  funext j
  refine congrArg (V c (Pipeline.arrRef spec3 5)) ?_
  blk_ext [e3_5]

theorem blk3_6 (c : Dev nD) (t : Fin cfg3.N) : iblk3 V c 6 t = V c (Pipeline.arrRef spec3 6) := by
  funext j
  refine congrArg (V c (Pipeline.arrRef spec3 6)) ?_
  blk_ext [e3_6]

theorem blk3_7 (c : Dev nD) (t : Fin cfg3.N) : iblk3 V c 7 t = V c (Pipeline.arrRef spec3 7) := by
  funext j
  refine congrArg (V c (Pipeline.arrRef spec3 7)) ?_
  blk_ext [e3_7]

theorem blk3_8 (c : Dev nD) (t : Fin cfg3.N) : iblk3 V c 8 t = V c (Pipeline.arrRef spec3 8) := by
  funext j
  refine congrArg (V c (Pipeline.arrRef spec3 8)) ?_
  blk_ext [e3_8]

theorem emb3_9 (t : Fin cfg3.N) (j : S64x5.Idx) : (win3_9.blk t).view.emb j = j := by
  blk_ext [e3_9]

theorem out9_net (x0 : Vec Ideal S64x10368 .f32) (x1 x2 : Vec Ideal S1x10368 .f32) (x3 : Vec Ideal S32x10368 .f32) (x4 : Vec Ideal S1x32 .f32)
    (x5 : Vec Ideal S5x32 .f32) (x6 : Vec Ideal S1x5 .f32) (x7 : Vec Ideal S2x32 .f32) (x8 : Vec Ideal S1x2 .f32)
    (x : Fin 64 → Fin 10368 → EReal) (hx : ∀ n f, x0 (ix2 n f) = x n f) (j : S64x5.Idx) :
    out3_9 x0 x1 x2 x3 x4 x5 x6 x7 x8 j = head5 x x1 x2 x3 x4 x5 x6 (j 0) (j 1) := by
  idx_vars j
  rw [out9_apply, show Spec.at2 x0 = x from funext fun n => funext fun f => hx n f]

set_option maxHeartbeats 1600000 in
theorem arr3_9 (c : Dev nD) (x : Fin 64 → Fin 10368 → EReal) (hx : ∀ n f, V c (Pipeline.arrRef spec3 0) (ix2 n f) = x n f) :
    (dat3 V c).arrAt 9 cfg3.N = fun i : S64x5.Idx => head5 x (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (i 0) (i 1) := by
  refine (dat3 V c).arrAt_eq_of_covers 9 _ (by decide +kernel) fun t hf y => ?_
  blk_simp
  rw [after3_9, blk3_0, blk3_1, blk3_2, blk3_3, blk3_4, blk3_5, blk3_6, blk3_7, blk3_8]
  refine (out9_net _ _ _ _ _ _ _ _ _ x hx y).trans ?_
  exact (congrArg (fun i : S64x5.Idx => head5 x (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (i 0) (i 1)) (emb3_9 t y)).symm

theorem emb3_10 (t : Fin cfg3.N) (j : S64x2.Idx) : (win3_10.blk t).view.emb j = j := by
  blk_ext [e3_10]

theorem out10_net (x0 : Vec Ideal S64x10368 .f32) (x1 x2 : Vec Ideal S1x10368 .f32) (x3 : Vec Ideal S32x10368 .f32) (x4 : Vec Ideal S1x32 .f32)
    (x5 : Vec Ideal S5x32 .f32) (x6 : Vec Ideal S1x5 .f32) (x7 : Vec Ideal S2x32 .f32) (x8 : Vec Ideal S1x2 .f32)
    (x : Fin 64 → Fin 10368 → EReal) (hx : ∀ n f, x0 (ix2 n f) = x n f) (j : S64x2.Idx) :
    out3_10 x0 x1 x2 x3 x4 x5 x6 x7 x8 j = head2 x x1 x2 x3 x4 x7 x8 (j 0) (j 1) := by
  idx_vars j
  rw [out10_apply, show Spec.at2 x0 = x from funext fun n => funext fun f => hx n f]

set_option maxHeartbeats 1600000 in
theorem arr3_10 (c : Dev nD) (x : Fin 64 → Fin 10368 → EReal) (hx : ∀ n f, V c (Pipeline.arrRef spec3 0) (ix2 n f) = x n f) :
    (dat3 V c).arrAt 10 cfg3.N = fun i : S64x2.Idx => head2 x (V c (Pipeline.arrRef spec3 1)) (V c (Pipeline.arrRef spec3 2)) (V c (Pipeline.arrRef spec3 3)) (V c (Pipeline.arrRef spec3 4)) (V c (Pipeline.arrRef spec3 7)) (V c (Pipeline.arrRef spec3 8)) (i 0) (i 1) := by
  refine (dat3 V c).arrAt_eq_of_covers 10 _ (by decide +kernel) fun t hf y => ?_
  blk_simp
  rw [after3_10, blk3_0, blk3_1, blk3_2, blk3_3, blk3_4, blk3_5, blk3_6, blk3_7, blk3_8]
  refine (out10_net _ _ _ _ _ _ _ _ _ x hx y).trans ?_
  exact (congrArg (fun i : S64x2.Idx => head2 x (V c (Pipeline.arrRef spec3 1)) (V c (Pipeline.arrRef spec3 2)) (V c (Pipeline.arrRef spec3 3)) (V c (Pipeline.arrRef spec3 4)) (V c (Pipeline.arrRef spec3 7)) (V c (Pipeline.arrRef spec3 8)) (i 0) (i 1)) (emb3_10 t y)).symm

end Cert.KernelIdeal.Body
-- ==== Proof.Hosts.lean ====
/-
  The host stretches between the regions: each region's arrays at its entry, as the bordered images and the parameters.
-/
module

public import proofs.«01_k».proof.Proof.Phases
public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI Idealize.SL.Sem

namespace Cert.KernelIdeal.Body

open Cert.KernelIdeal Cert.KernelIdeal.Gen

variable (m : (ℓ : Loc nD τ sig) → Buf (Elt Ideal) ℓ) (ρ : Dev nD → PrngReg) (c : Dev nD)

/-- The buffer `r`'s contents at launch. -/
abbrev argAt (r : Ref sig .tc) : Buf (Elt Ideal) ((c.tc : Thread nD τ).loc r) := m ((c.tc : Thread nD τ).loc r)

/-! ### The first block -/

theorem V3_v2 : V3 m ρ c main_v2 = phases0 (argAt m c main_arg0) := by
  show StableHlo.after hostOps0_2 (StableHlo.after hostOps0_1 (StableHlo.after hostOps0 (W0 m ρ c))) (Proc.devRef .tc main_v2) = _
  after_results
  rfl

theorem V3_v3 : V3 m ρ c main_v3 = shapeCast S8x1x1 (argAt m c main_arg2 : FVec Ideal S8 .f32) shapeCasts_S8_S8x1x1 := by
  show StableHlo.after hostOps0_2 (W2 m ρ c) (Proc.devRef .tc main_v3) = _
  after_results
  rfl

theorem V3_v4 : V3 m ρ c main_v4 = shapeCast S8x1x1 (argAt m c main_arg7 : FVec Ideal S8 .f32) shapeCasts_S8_S8x1x1 := by
  show StableHlo.after hostOps0_2 (W2 m ρ c) (Proc.devRef .tc main_v4) = _
  after_results
  rfl

theorem V3_v5 : V3 m ρ c main_v5 = shapeCast S8x1x1 (argAt m c main_arg8 : FVec Ideal S8 .f32) shapeCasts_S8_S8x1x1 := by
  show StableHlo.after hostOps0_2 (W2 m ρ c) (Proc.devRef .tc main_v5) = _
  after_results
  rfl

/-- The first block's images of the arguments. -/
def img1 : Fin 64 → Fin 8 → Fin 56 → Fin 56 → EReal :=
  Spec.first (Spec.at4 (argAt m c main_arg1 : FVec Ideal S8x3x7x7 .f32)) (Spec.at1 (argAt m c main_arg2 : FVec Ideal S8 .f32))
    (Spec.at1 (argAt m c main_arg7 : FVec Ideal S8 .f32)) (Spec.at1 (argAt m c main_arg8 : FVec Ideal S8 .f32))
    (Spec.at4 (argAt m c main_arg0 : FVec Ideal S64x3x224x224 .f32))

theorem W4_v6 : W4 m ρ c (Proc.devRef .tc main_v6) = fun i : S64x8x56x56.Idx => img1 m c (i 0) (i 1) (i 2) (i 3) := by
  refine (W4_arr m ρ c 5).trans ((arr0 (V3 m ρ) c (fun n k => Spec.border 2 224 (Spec.at4 (argAt m c main_arg0 : FVec Ideal S64x3x224x224 .f32) n k))
    fun n p q k u v => ?_).trans (funext fun i => ?_))
  · rw [show V3 m ρ c (Pipeline.arrRef spec0 0) = _ from V3_v2 m ρ c]
    exact phases0_apply _ n p q k u v
  · rw [show V3 m ρ c (Pipeline.arrRef spec0 2) = _ from V3_v3 m ρ c, show V3 m ρ c (Pipeline.arrRef spec0 3) = _ from V3_v4 m ρ c,
      show V3 m ρ c (Pipeline.arrRef spec0 4) = _ from V3_v5 m ρ c,
      show V3 m ρ c (Pipeline.arrRef spec0 1) = _ from W3_args m ρ c main_arg1 (by decide)]
    exact net0_first _ _ _ _ _ (i 0) (i 1) (i 2) (i 3)

/-! ### The second block -/

theorem V7_v9 : V7 m ρ c main_v9 = phases1 (W4 m ρ c (Proc.devRef .tc main_v6)) := by
  show StableHlo.after hostOps1_2 (StableHlo.after hostOps1_1 (StableHlo.after hostOps1 (W4 m ρ c))) (Proc.devRef .tc main_v9) = _
  after_results
  rfl

theorem V7_v10 : V7 m ρ c main_v10 = shapeCast S16x1x1 (argAt m c main_arg4 : FVec Ideal S16 .f32) shapeCasts_S16_S16x1x1 := by
  show StableHlo.after hostOps1_2 (W6 m ρ c) (Proc.devRef .tc main_v10) = _
  after_results
  rw [W4_args m ρ c main_arg4 (by decide)]
  rfl

theorem V7_v11 : V7 m ρ c main_v11 = shapeCast S16x1x1 (argAt m c main_arg9 : FVec Ideal S16 .f32) shapeCasts_S16_S16x1x1 := by
  show StableHlo.after hostOps1_2 (W6 m ρ c) (Proc.devRef .tc main_v11) = _
  after_results
  rw [W4_args m ρ c main_arg9 (by decide)]
  rfl

theorem V7_v12 : V7 m ρ c main_v12 = shapeCast S16x1x1 (argAt m c main_arg10 : FVec Ideal S16 .f32) shapeCasts_S16_S16x1x1 := by
  show StableHlo.after hostOps1_2 (W6 m ρ c) (Proc.devRef .tc main_v12) = _
  after_results
  rw [W4_args m ρ c main_arg10 (by decide)]
  rfl

/-- The second block's images of the arguments. -/
def img2 : Fin 64 → Fin 16 → Fin 18 → Fin 18 → EReal :=
  Spec.second (Spec.at4 (argAt m c main_arg3 : FVec Ideal S16x8x5x5 .f32)) (Spec.at1 (argAt m c main_arg4 : FVec Ideal S16 .f32))
    (Spec.at1 (argAt m c main_arg9 : FVec Ideal S16 .f32)) (Spec.at1 (argAt m c main_arg10 : FVec Ideal S16 .f32)) (img1 m c)

theorem W8_v13 : W8 m ρ c (Proc.devRef .tc main_v13) = fun i : S16x18x18x64.Idx => img2 m c (i 3) (i 0) (i 1) (i 2) := by
  refine (W8_arr m ρ c 5).trans ((arr1 (V7 m ρ) c (fun n k => Spec.border 1 56 (img1 m c n k))
    fun n p q k u v => ?_).trans (funext fun i => ?_))
  · rw [show V7 m ρ c (Pipeline.arrRef spec1 0) = _ from V7_v9 m ρ c, W4_v6]
    exact phases1_apply _ n p q k u v
  · rw [show V7 m ρ c (Pipeline.arrRef spec1 2) = _ from V7_v10 m ρ c, show V7 m ρ c (Pipeline.arrRef spec1 3) = _ from V7_v11 m ρ c,
      show V7 m ρ c (Pipeline.arrRef spec1 4) = _ from V7_v12 m ρ c,
      show V7 m ρ c (Pipeline.arrRef spec1 1) = _ from W7_args m ρ c main_arg3 (by decide)]
    exact net1_second _ _ _ _ _ (i 3) (i 0) (i 1) (i 2)

/-! ### The third block -/

theorem V11_v15 : V11 m ρ c main_v15 = phases2 (W8 m ρ c (Proc.devRef .tc main_v13)) := by
  show StableHlo.after hostOps2_2 (StableHlo.after hostOps2_1 (StableHlo.after hostOps2 (W8 m ρ c))) (Proc.devRef .tc main_v15) = _
  after_results
  rfl

theorem V11_v16 : V11 m ρ c main_v16 = shapeCast S32x1x1 (argAt m c main_arg6 : FVec Ideal S32 .f32) shapeCasts_S32_S32x1x1 := by
  show StableHlo.after hostOps2_2 (W10 m ρ c) (Proc.devRef .tc main_v16) = _
  after_results
  rw [W8_args m ρ c main_arg6 (by decide)]
  rfl

theorem V11_v17 : V11 m ρ c main_v17 = shapeCast S32x1x1 (argAt m c main_arg11 : FVec Ideal S32 .f32) shapeCasts_S32_S32x1x1 := by
  show StableHlo.after hostOps2_2 (W10 m ρ c) (Proc.devRef .tc main_v17) = _
  after_results
  rw [W8_args m ρ c main_arg11 (by decide)]
  rfl

theorem V11_v18 : V11 m ρ c main_v18 = shapeCast S32x1x1 (argAt m c main_arg12 : FVec Ideal S32 .f32) shapeCasts_S32_S32x1x1 := by
  show StableHlo.after hostOps2_2 (W10 m ρ c) (Proc.devRef .tc main_v18) = _
  after_results
  rw [W8_args m ρ c main_arg12 (by decide)]
  rfl

/-- The third block's images of the arguments. -/
def img3 : Fin 64 → Fin 32 → Fin 18 → Fin 18 → EReal :=
  Spec.third (Spec.at4 (argAt m c main_arg5 : FVec Ideal S32x16x3x3 .f32)) (Spec.at1 (argAt m c main_arg6 : FVec Ideal S32 .f32))
    (Spec.at1 (argAt m c main_arg11 : FVec Ideal S32 .f32)) (Spec.at1 (argAt m c main_arg12 : FVec Ideal S32 .f32)) (img2 m c)

theorem W12_v19 : W12 m ρ c (Proc.devRef .tc main_v19) = fun i : S32x18x18x64.Idx => img3 m c (i 3) (i 0) (i 1) (i 2) := by
  refine (W12_arr m ρ c 5).trans ((arr2 (V11 m ρ) c (fun n k => Spec.border 1 18 (img2 m c n k))
    fun n k u v => ?_).trans (funext fun i => ?_))
  · rw [show V11 m ρ c (Pipeline.arrRef spec2 0) = _ from V11_v15 m ρ c, W8_v13]
    exact phases2_apply _ n k u v
  · rw [show V11 m ρ c (Pipeline.arrRef spec2 2) = _ from V11_v16 m ρ c, show V11 m ρ c (Pipeline.arrRef spec2 3) = _ from V11_v17 m ρ c,
      show V11 m ρ c (Pipeline.arrRef spec2 4) = _ from V11_v18 m ρ c,
      show V11 m ρ c (Pipeline.arrRef spec2 1) = _ from W11_args m ρ c main_arg5 (by decide)]
    exact net2_third _ _ _ _ _ (i 3) (i 0) (i 1) (i 2)

end Cert.KernelIdeal.Body
-- ==== Proof.Tail.lean ====
/-
  The kernel's results as functions of the arguments: the last host stretch, which lays the third block's images out as rows,
  and the last region.
-/
module

public import proofs.«01_k».proof.Proof.Last
public import proofs.«01_k».proof.Proof.Hosts

@[expose] public section

set_option maxRecDepth 16384

noncomputable section

open Idealize.ShloMosaic Idealize.ShloMosaic.TcCoe Idealize.ShloMosaic.Tactic
open Idealize.SL Idealize.SL.RA Idealize.SL.BI Idealize.SL.Sem

namespace Cert.KernelIdeal.Body

open Cert.KernelIdeal Cert.KernelIdeal.Gen

/-! ### A vector as a one-row array, and images as rows -/

theorem row_features (a : FVec Ideal S10368 .f32) : row (shapeCast S1x10368 a shapeCasts_S10368_S1x10368) = Spec.at1 a := by
  funext i
  unfold row Spec.at1
  pointwise

theorem row_hidden (a : FVec Ideal S32 .f32) : row (shapeCast S1x32 a shapeCasts_S32_S1x32) = Spec.at1 a := by
  funext i
  unfold row Spec.at1
  pointwise

theorem row_five (a : FVec Ideal S5 .f32) : row (shapeCast S1x5 a shapeCasts_S5_S1x5) = Spec.at1 a := by
  funext i
  unfold row Spec.at1
  pointwise

theorem row_two (a : FVec Ideal S2 .f32) : row (shapeCast S1x2 a shapeCasts_S2_S1x2) = Spec.at1 a := by
  funext i
  unfold row Spec.at1
  pointwise

/-- The host's transpose and reshape of the images, as a named function of the array. -/
def rows (a : FVec Ideal S32x18x18x64 .f32) : FVec Ideal S64x10368 .f32 :=
  shapeCast S64x10368 (transpose S64x32x18x18 [3, 0, 1, 2] a transposes_S32x18x18x64_S64x32x18x18_3_0_1_2)
    shapeCasts_S64x32x18x18_S64x10368

theorem rows_apply (x : Fin 64 → Fin 32 → Fin 18 → Fin 18 → EReal) (n : Fin 64) (f : Fin 10368) :
    rows (fun i : S32x18x18x64.Idx => x (i 3) (i 0) (i 1) (i 2)) (ix2 n f) = Spec.flat x n f := by
  unfold rows Spec.flat
  pointwise

variable (m : (ℓ : Loc nD τ sig) → Buf (Elt Ideal) ℓ) (ρ : Dev nD → PrngReg) (c : Dev nD)

theorem V13_v21 : V13 m ρ c main_v21 = rows (W12 m ρ c (Proc.devRef .tc main_v19)) := by
  show StableHlo.after hostOps3 (W12 m ρ c) (Proc.devRef .tc main_v21) = _
  after_results
  rfl

theorem V13_v22 : V13 m ρ c main_v22 = shapeCast S1x10368 (argAt m c main_arg13 : FVec Ideal S10368 .f32) shapeCasts_S10368_S1x10368 := by
  show StableHlo.after hostOps3 (W12 m ρ c) (Proc.devRef .tc main_v22) = _
  after_results
  rw [W12_args m ρ c main_arg13 (by decide)]
  rfl

theorem V13_v23 : V13 m ρ c main_v23 = shapeCast S1x10368 (argAt m c main_arg14 : FVec Ideal S10368 .f32) shapeCasts_S10368_S1x10368 := by
  show StableHlo.after hostOps3 (W12 m ρ c) (Proc.devRef .tc main_v23) = _
  after_results
  rw [W12_args m ρ c main_arg14 (by decide)]
  rfl

theorem V13_v24 : V13 m ρ c main_v24 = shapeCast S1x32 (argAt m c main_arg16 : FVec Ideal S32 .f32) shapeCasts_S32_S1x32 := by
  show StableHlo.after hostOps3 (W12 m ρ c) (Proc.devRef .tc main_v24) = _
  after_results
  rw [W12_args m ρ c main_arg16 (by decide)]
  rfl

theorem V13_v25 : V13 m ρ c main_v25 = shapeCast S1x5 (argAt m c main_arg18 : FVec Ideal S5 .f32) shapeCasts_S5_S1x5 := by
  show StableHlo.after hostOps3 (W12 m ρ c) (Proc.devRef .tc main_v25) = _
  after_results
  rw [W12_args m ρ c main_arg18 (by decide)]
  rfl

theorem V13_v26 : V13 m ρ c main_v26 = shapeCast S1x2 (argAt m c main_arg20 : FVec Ideal S2 .f32) shapeCasts_S2_S1x2 := by
  show StableHlo.after hostOps3 (W12 m ρ c) (Proc.devRef .tc main_v26) = _
  after_results
  rw [W12_args m ρ c main_arg20 (by decide)]
  rfl

theorem V13_rows (n : Fin 64) (f : Fin 10368) : V13 m ρ c (Pipeline.arrRef spec3 0) (ix2 n f) = Spec.flat (img3 m c) n f := by
  rw [show V13 m ρ c (Pipeline.arrRef spec3 0) = _ from V13_v21 m ρ c, W12_v19]
  exact rows_apply _ n f

/-- The hidden layer of the arguments. -/
def hid : Fin 64 → Fin 32 → EReal :=
  Spec.trunk (img3 m c) (Spec.at1 (argAt m c main_arg13 : FVec Ideal S10368 .f32)) (Spec.at1 (argAt m c main_arg14 : FVec Ideal S10368 .f32))
    (Spec.at2 (argAt m c main_arg15 : FVec Ideal S32x10368 .f32)) (Spec.at1 (argAt m c main_arg16 : FVec Ideal S32 .f32))

/-- The five-class result of the arguments. -/
def five : FVec Ideal S64x5 .f32 := fun i : S64x5.Idx =>
  Spec.softmax (Spec.dense (Spec.at2 (argAt m c main_arg17 : FVec Ideal S5x32 .f32)) (Spec.at1 (argAt m c main_arg18 : FVec Ideal S5 .f32))
    (hid m c (i 0))) (i 1)

/-- The two-class result of the arguments. -/
def two : FVec Ideal S64x2 .f32 := fun i : S64x2.Idx =>
  Spec.softmax (Spec.dense (Spec.at2 (argAt m c main_arg19 : FVec Ideal S2x32 .f32)) (Spec.at1 (argAt m c main_arg20 : FVec Ideal S2 .f32))
    (hid m c (i 0))) (i 1)

theorem W14_five : W14 m ρ c (Proc.devRef .tc (Pipeline.arrRef spec3 9)) = five m c := by
  refine (W14_arr m ρ c 9).trans ((arr3_9 (V13 m ρ) c _ (V13_rows m ρ c)).trans ?_)
  rw [show V13 m ρ c (Pipeline.arrRef spec3 1) = _ from V13_v22 m ρ c, show V13 m ρ c (Pipeline.arrRef spec3 2) = _ from V13_v23 m ρ c,
    show V13 m ρ c (Pipeline.arrRef spec3 4) = _ from V13_v24 m ρ c, show V13 m ρ c (Pipeline.arrRef spec3 6) = _ from V13_v25 m ρ c,
    show V13 m ρ c (Pipeline.arrRef spec3 3) = _ from W13_args m ρ c main_arg15 (by decide),
    show V13 m ρ c (Pipeline.arrRef spec3 5) = _ from W13_args m ρ c main_arg17 (by decide)]
  unfold head5
  rw [row_features, row_features, row_hidden, row_five]
  rfl

theorem W14_two : W14 m ρ c (Proc.devRef .tc (Pipeline.arrRef spec3 10)) = two m c := by
  refine (W14_arr m ρ c 10).trans ((arr3_10 (V13 m ρ) c _ (V13_rows m ρ c)).trans ?_)
  rw [show V13 m ρ c (Pipeline.arrRef spec3 1) = _ from V13_v22 m ρ c, show V13 m ρ c (Pipeline.arrRef spec3 2) = _ from V13_v23 m ρ c,
    show V13 m ρ c (Pipeline.arrRef spec3 4) = _ from V13_v24 m ρ c, show V13 m ρ c (Pipeline.arrRef spec3 8) = _ from V13_v26 m ρ c,
    show V13 m ρ c (Pipeline.arrRef spec3 3) = _ from W13_args m ρ c main_arg15 (by decide),
    show V13 m ρ c (Pipeline.arrRef spec3 7) = _ from W13_args m ρ c main_arg19 (by decide)]
  unfold head2
  rw [row_features, row_features, row_hidden, row_two]
  rfl

end Cert.KernelIdeal.Body
-- ==== Proof.KernelRun.lean ====
/-
  The kernel's run, with the contents of every unscoped buffer at its end.
-/
module

public import proofs.«01_k».proof.Proof.Tail

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Body

open Cert.KernelIdeal Cert.KernelIdeal.Gen

/-- The resources the launch hands out. -/
abbrev Res := MT nD τ sig Unit (Elt Ideal) ℕ (UR sig nD τ) ℕ

variable (m : (ℓ : Loc nD τ sig) → Buf (Elt Ideal) ℓ) (ρ : Dev nD → PrngReg)

set_option backward.isDefEq.respectTransparency.types false in
/-- The run ends with every unscoped buffer at the contents the last region leaves. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W14 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h _ => h)

end Cert.KernelIdeal.Body
-- ==== Proof.RefConv.lean ====
/-
  The reference's convolutions: a product of stacked patches with the flattened filters, read at an index.
-/
module

public import proofs.«01_k».proof.Proof.Net
public import proofs.«01_k».proof.Proof.Gen.ReferenceIdeal.Run

@[expose] public section

set_option maxRecDepth 16384

noncomputable section

open Idealize.ShloMosaic Idealize.ShloMosaic.TcCoe Idealize.ShloMosaic.Tactic Idealize.ShloMosaic.StableHlo

namespace Cert.ReferenceIdeal.Body

open Cert.ReferenceIdeal Cert.ReferenceIdeal.Gen Cert.ReferenceIdeal.Value

/-- A product of patches and filters, their taps counted row by row, as a sum over rows, columns and channels. -/
theorem sum_patch {N C : ℕ} (K : ℕ) (h : N = K * K) (x w : Fin C → Fin K → Fin K → EReal) (h1 : ∀ t : Fin N, t / K < K)
    (h2 : ∀ t : Fin N, t % K < K) :
    (∑ c, ∑ t : Fin N, x c ⟨t / K, h1 t⟩ ⟨t % K, h2 t⟩ * w c ⟨t / K, h1 t⟩ ⟨t % K, h2 t⟩)
      = ∑ i, ∑ j, ∑ c, w c i j * x c i j := by
  subst h
  rw [Finset.sum_comm, ← Fintype.sum_prod_type' fun i j : Fin K => ∑ c, w c i j * x c i j]
  refine Fintype.sum_equiv finProdFinEquiv.symm _ _ fun t => Finset.sum_congr rfl fun c _ => ?_
  exact mul_comm _ _

theorem conv_of0 (p : FVec Ideal S64x3x7x7x56x56 .f32) (w : FVec Ideal S8x3x7x7 .f32) (b : FVec Ideal S8 .f32)
    (x : Fin 64 → Fin 3 → ℕ → ℕ → EReal)
    (hp : ∀ (n : Fin 64) (k : Fin 3) (i j : Fin 7) (y z : Fin 56), p (ix6 n k i j y z) = x n k (4 * y + i) (4 * z + j))
    (n : Fin 64) (o : Fin 8) (y z : Fin 56) :
    addf (transpose S64x8x56x56 [0, 3, 1, 2] (Host.dotGeneral dot_S64x3x49x56x56_S8x3x49_S64x56x56x8_12_12_034_0_n_n none
        (shapeCast S64x3x49x56x56 p shapeCasts_S64x3x7x7x56x56_S64x3x49x56x56)
        (shapeCast S8x3x49 w shapeCasts_S8x3x7x7_S8x3x49)) transposes_S64x56x56x8_S64x8x56x56_0_3_1_2)
      (broadcastInDim S64x8x56x56 ![0, 1, 2, 3] bcast_S1x8x1x1_S64x8x56x56_0_1_2_3
        (broadcastInDim S1x8x1x1 ![1] bcast_S8_S1x8x1x1_1 b))
      (ix4 n o y z) = Spec.conv 4 (Spec.at4 w o) (x n) (Spec.at1 b o) y z := by
  unfold Spec.conv Spec.at4 Spec.at1
  pointwise
  simp only [hp]
  exact congrArg (· + b (ix1 o)) (sum_patch 7 rfl (fun c i j => x n c (4 * y + i) (4 * z + j)) (fun c i j => w (ix4 o c i j)) _ _)

theorem conv_of1 (p : FVec Ideal S64x8x5x5x18x18 .f32) (w : FVec Ideal S16x8x5x5 .f32) (b : FVec Ideal S16 .f32)
    (x : Fin 64 → Fin 8 → ℕ → ℕ → EReal)
    (hp : ∀ (n : Fin 64) (k : Fin 8) (i j : Fin 5) (y z : Fin 18), p (ix6 n k i j y z) = x n k (3 * y + i) (3 * z + j))
    (n : Fin 64) (o : Fin 16) (y z : Fin 18) :
    addf (transpose S64x16x18x18 [0, 3, 1, 2] (Host.dotGeneral dot_S64x8x25x18x18_S16x8x25_S64x18x18x16_12_12_034_0_n_n none
        (shapeCast S64x8x25x18x18 p shapeCasts_S64x8x5x5x18x18_S64x8x25x18x18)
        (shapeCast S16x8x25 w shapeCasts_S16x8x5x5_S16x8x25)) transposes_S64x18x18x16_S64x16x18x18_0_3_1_2)
      (broadcastInDim S64x16x18x18 ![0, 1, 2, 3] bcast_S1x16x1x1_S64x16x18x18_0_1_2_3
        (broadcastInDim S1x16x1x1 ![1] bcast_S16_S1x16x1x1_1 b))
      (ix4 n o y z) = Spec.conv 3 (Spec.at4 w o) (x n) (Spec.at1 b o) y z := by
  unfold Spec.conv Spec.at4 Spec.at1
  pointwise
  simp only [hp]
  exact congrArg (· + b (ix1 o)) (sum_patch 5 rfl (fun c i j => x n c (3 * y + i) (3 * z + j)) (fun c i j => w (ix4 o c i j)) _ _)

theorem conv_of2 (p : FVec Ideal S64x16x3x3x18x18 .f32) (w : FVec Ideal S32x16x3x3 .f32) (b : FVec Ideal S32 .f32)
    (x : Fin 64 → Fin 16 → ℕ → ℕ → EReal)
    (hp : ∀ (n : Fin 64) (k : Fin 16) (i j : Fin 3) (y z : Fin 18), p (ix6 n k i j y z) = x n k (1 * y + i) (1 * z + j))
    (n : Fin 64) (o : Fin 32) (y z : Fin 18) :
    addf (transpose S64x32x18x18 [0, 3, 1, 2] (Host.dotGeneral dot_S64x16x9x18x18_S32x16x9_S64x18x18x32_12_12_034_0_n_n none
        (shapeCast S64x16x9x18x18 p shapeCasts_S64x16x3x3x18x18_S64x16x9x18x18)
        (shapeCast S32x16x9 w shapeCasts_S32x16x3x3_S32x16x9)) transposes_S64x18x18x32_S64x32x18x18_0_3_1_2)
      (broadcastInDim S64x32x18x18 ![0, 1, 2, 3] bcast_S1x32x1x1_S64x32x18x18_0_1_2_3
        (broadcastInDim S1x32x1x1 ![1] bcast_S32_S1x32x1x1_1 b))
      (ix4 n o y z) = Spec.conv 1 (Spec.at4 w o) (x n) (Spec.at1 b o) y z := by
  unfold Spec.conv Spec.at4 Spec.at1
  pointwise
  simp only [hp, Nat.one_mul]
  exact congrArg (· + b (ix1 o)) (sum_patch 3 rfl (fun c i j => x n c (y + i) (z + j)) (fun c i j => w (ix4 o c i j)) _ _)

variable (V0 : Valuation τ sig (Elt Ideal))

theorem zero_eq : (FloatOps.sitofp .f32 0#32 : Ideal .f32) = (0 : EReal) := by
  show (((0#32 : BitVec 32).toInt : ℝ) : EReal) = 0
  simp

theorem pad0_apply (a : FVec Ideal S64x3x224x224 .f32) (n : Fin 64) (k : Fin 3) (y z : Fin 228) :
    pad S64x3x228x228 ![0, 0, 2, 2] ![0, 0, 2, 2] ![0, 0, 0, 0] a (sitofp .f32 (constantI S_ 32 0#32))
      pads_S64x3x224x224_S64x3x228x228_000_000_220_220 h_S_ (ix4 n k y z) = Spec.border 2 224 (Spec.at4 a n k) y z := by
  unfold Spec.border Spec.at4
  pointwise
  rw [zero_eq]

theorem v0_apply (a : FVec Ideal S64x3x224x224 .f32) (ha : V0 (Proc.devRef .tc main_arg0) = a) (n : Fin 64) (k : Fin 3) (y z : Fin 228) :
    res_main_v0 V0 (ix4 n k y z) = Spec.border 2 224 (Spec.at4 a n k) y z := by
  subst ha
  exact pad0_apply _ n k y z

theorem v16_apply (a : FVec Ideal S64x3x228x228 .f32) (ha : res_main_v0 V0 = a) (n : Fin 64) (k : Fin 3) (i : Fin 7) (y : Fin 56)
    (z : Fin 228) : res_main_v16 V0 (ix5 n k i y z) = a (ix4 n k ⟨i + 4 * y, by omega⟩ z) := by
  unfold res_main_v16
  rw [ha]
  fin_vals i with hi
  all_goals
    pointwise
    simp only [hi, Nat.reduceSub, Nat.reduceLT, ↓reduceDIte, Nat.zero_add]

theorem v37_apply (x : Fin 64 → Fin 3 → ℕ → ℕ → EReal)
    (hx : ∀ (n : Fin 64) (k : Fin 3) (y z : Fin 228), res_main_v0 V0 (ix4 n k y z) = x n k y z) (n : Fin 64) (o : Fin 8) (y z : Fin 56) :
    res_main_v37 V0 (ix4 n o y z) = Spec.conv 4 (Spec.at4 (V0 (Proc.devRef .tc main_arg1) : FVec Ideal S8x3x7x7 .f32) o) (x n)
      (Spec.at1 (V0 (Proc.devRef .tc main_arg2) : FVec Ideal S8 .f32) o) y z := by
  refine conv_of0 _ _ _ x (fun n k i j y z => ?_) n o y z
  obtain ⟨a, ha⟩ : ∃ a : FVec Ideal S64x3x7x56x228 .f32, res_main_v16 V0 = a := ⟨_, rfl⟩
  refine Eq.trans (b := a (ix5 n k i y ⟨j + 4 * z, by omega⟩)) ?_
    (((congrFun ha _).symm.trans ((v16_apply V0 _ rfl n k i y _).trans (hx n k _ _))).trans
      (congrArg₂ (x n k) (show i.val + 4 * y = 4 * y + i by omega) (show j.val + 4 * z = 4 * z + j by omega)))
  rw [ha]
  fin_vals j with hj
  all_goals
    pointwise
    simp only [hj, Nat.reduceSub, Nat.reduceLT, ↓reduceDIte, Nat.zero_add]

theorem v69_apply (a : FVec Ideal S64x8x58x58 .f32) (ha : res_main_v57 V0 = a) (n : Fin 64) (k : Fin 8) (i : Fin 5) (y : Fin 18)
    (z : Fin 58) : res_main_v69 V0 (ix5 n k i y z) = a (ix4 n k ⟨i + 3 * y, by omega⟩ z) := by
  unfold res_main_v69
  rw [ha]
  fin_vals i with hi
  all_goals
    pointwise
    simp only [hi, Nat.reduceSub, Nat.reduceLT, ↓reduceDIte, Nat.zero_add]

theorem v86_apply (x : Fin 64 → Fin 8 → ℕ → ℕ → EReal)
    (hx : ∀ (n : Fin 64) (k : Fin 8) (y z : Fin 58), res_main_v57 V0 (ix4 n k y z) = x n k y z) (n : Fin 64) (o : Fin 16) (y z : Fin 18) :
    res_main_v86 V0 (ix4 n o y z) = Spec.conv 3 (Spec.at4 (V0 (Proc.devRef .tc main_arg3) : FVec Ideal S16x8x5x5 .f32) o) (x n)
      (Spec.at1 (V0 (Proc.devRef .tc main_arg4) : FVec Ideal S16 .f32) o) y z := by
  refine conv_of1 _ _ _ x (fun n k i j y z => ?_) n o y z
  obtain ⟨a, ha⟩ : ∃ a : FVec Ideal S64x8x5x18x58 .f32, res_main_v69 V0 = a := ⟨_, rfl⟩
  refine Eq.trans (b := a (ix5 n k i y ⟨j + 3 * z, by omega⟩)) ?_
    (((congrFun ha _).symm.trans ((v69_apply V0 _ rfl n k i y _).trans (hx n k _ _))).trans
      (congrArg₂ (x n k) (show i.val + 3 * y = 3 * y + i by omega) (show j.val + 3 * z = 3 * z + j by omega)))
  rw [ha]
  fin_vals j with hj
  all_goals
    pointwise
    simp only [hj, Nat.reduceSub, Nat.reduceLT, ↓reduceDIte, Nat.zero_add]

theorem v179_apply (a : FVec Ideal S64x16x20x20 .f32) (ha : res_main_v171 V0 = a) (n : Fin 64) (k : Fin 16) (i : Fin 3) (y : Fin 18)
    (z : Fin 20) : res_main_v179 V0 (ix5 n k i y z) = a (ix4 n k ⟨i + 1 * y, by omega⟩ z) := by
  unfold res_main_v179
  rw [ha]
  fin_vals i with hi
  all_goals
    pointwise
    simp only [hi, Nat.reduceSub, Nat.reduceLT, ↓reduceDIte, Nat.zero_add, Nat.one_mul]

theorem v192_apply (x : Fin 64 → Fin 16 → ℕ → ℕ → EReal)
    (hx : ∀ (n : Fin 64) (k : Fin 16) (y z : Fin 20), res_main_v171 V0 (ix4 n k y z) = x n k y z) (n : Fin 64) (o : Fin 32) (y z : Fin 18) :
    res_main_v192 V0 (ix4 n o y z) = Spec.conv 1 (Spec.at4 (V0 (Proc.devRef .tc main_arg5) : FVec Ideal S32x16x3x3 .f32) o) (x n)
      (Spec.at1 (V0 (Proc.devRef .tc main_arg6) : FVec Ideal S32 .f32) o) y z := by
  refine conv_of2 _ _ _ x (fun n k i j y z => ?_) n o y z
  obtain ⟨a, ha⟩ : ∃ a : FVec Ideal S64x16x3x18x20 .f32, res_main_v179 V0 = a := ⟨_, rfl⟩
  refine Eq.trans (b := a (ix5 n k i y ⟨j + 1 * z, by omega⟩)) ?_
    (((congrFun ha _).symm.trans ((v179_apply V0 _ rfl n k i y _).trans (hx n k _ _))).trans
      (congrArg₂ (x n k) (show i.val + 1 * y = 1 * y + i by omega) (show j.val + 1 * z = 1 * z + j by omega)))
  rw [ha]
  fin_vals j with hj
  all_goals
    pointwise
    simp only [hj, Nat.reduceSub, Nat.reduceLT, ↓reduceDIte, Nat.zero_add, Nat.one_mul]

end Cert.ReferenceIdeal.Body
-- ==== Proof.RefNorm.lean ====
/-
  The reference's first normalisation, and the borders it lays around images.
-/
module

public import proofs.«01_k».proof.Proof.RefConv
public import proofs.«01_k».proof.Proof.Consts

@[expose] public section

set_option maxRecDepth 16384

noncomputable section

open Idealize.ShloMosaic Idealize.ShloMosaic.TcCoe Idealize.ShloMosaic.Tactic Idealize.ShloMosaic.StableHlo

namespace Cert.ReferenceIdeal.Body

open Cert.ReferenceIdeal Cert.ReferenceIdeal.Gen Cert.ReferenceIdeal.Value

theorem pad1_apply (a : FVec Ideal S64x8x56x56 .f32) (n : Fin 64) (k : Fin 8) (y z : Fin 58) :
    pad S64x8x58x58 ![0, 0, 1, 1] ![0, 0, 1, 1] ![0, 0, 0, 0] a (sitofp .f32 (constantI S_ 32 0#32))
      pads_S64x8x56x56_S64x8x58x58_000_000_110_110 h_S_ (ix4 n k y z) = Spec.border 1 56 (Spec.at4 a n k) y z := by
  unfold Spec.border Spec.at4
  pointwise
  rw [zero_eq]

theorem pad2_apply (a : FVec Ideal S64x16x18x18 .f32) (n : Fin 64) (k : Fin 16) (y z : Fin 20) :
    pad S64x16x20x20 ![0, 0, 1, 1] ![0, 0, 1, 1] ![0, 0, 0, 0] a (sitofp .f32 (constantI S_ 32 0#32))
      pads_S64x16x18x18_S64x16x20x20_000_000_110_110 h_S_ (ix4 n k y z) = Spec.border 1 18 (Spec.at4 a n k) y z := by
  unfold Spec.border Spec.at4
  pointwise
  rw [zero_eq]

/-- The unbiased count `N - 0` is positive, so the variance's guard takes the quotient. -/
theorem guard {w : BitVec 32} {r : ℝ} (hw : Ideal.ofBits .f32 w = (r : EReal)) (hr : 0 < r) (q : EReal → EReal) (e : EReal) :
    (if 0 < Ideal.ofBits .f32 w - (FloatOps.sitofp .f32 0#32 : Ideal .f32) then q (Ideal.ofBits .f32 w - (FloatOps.sitofp .f32 0#32 : Ideal .f32)) else e)
      = q (r : EReal) := by
  rw [zero_eq, sub_zero, hw, if_pos (by exact_mod_cast hr)]

/-- The indices over one place of an array whose third axis is reduced. -/
theorem filter_axis2 {n0 n1 n2 n3 : ℕ} (h : (⟨4, ![n0, n1, n2, n3]⟩ : Shape).ReducesTo [2] ⟨3, ![n0, n1, n3]⟩) (i : Fin n0) (j : Fin n1)
    (l : Fin n3) :
    (Finset.univ.filter fun x => h.drop x = ix3 i j l) = Finset.univ.image fun k : Fin n2 => ix4 i j k l := by
  ext x
  simp only [Finset.mem_filter, Finset.mem_univ, true_and, Finset.mem_image]
  constructor
  · intro e
    have e0 : x 0 = i := Fin.ext (congrArg Fin.val (congrFun e 0))
    have e1 : x 1 = j := Fin.ext (congrArg Fin.val (congrFun e 1))
    have e3 : x 3 = l := Fin.ext (congrArg Fin.val (congrFun e 2))
    refine ⟨x 2, ?_⟩
    rw [← e0, ← e1, ← e3]
    exact ix4_eta x
  · rintro ⟨k, rfl⟩
    funext b
    fin_cases b <;> rfl

/-- The least value along the third axis. -/
theorem min_axis2 {n0 n1 n3 : ℕ} (h : (⟨4, ![n0, n1, 25, n3]⟩ : Shape).ReducesTo [2] ⟨3, ![n0, n1, n3]⟩)
    (v : (⟨4, ![n0, n1, 25, n3]⟩ : Shape).Idx → EReal) (i : Fin n0) (j : Fin n1) (l : Fin n3) :
    Finset.fold min (Ideal.ofBits .f32 0x7F800000#32) v (Finset.univ.filter fun x => h.drop x = ix3 i j l) = Spec.low fun t => v (ix4 i j t l) := by
  rw [Consts.w_top]
  show (Finset.univ.filter fun x => h.drop x = ix3 i j l).inf v = _
  rw [filter_axis2, Finset.inf_image]
  rfl

/-- The greatest value along the third axis. -/
theorem max_axis2 {n0 n1 n3 : ℕ} (h : (⟨4, ![n0, n1, 25, n3]⟩ : Shape).ReducesTo [2] ⟨3, ![n0, n1, n3]⟩)
    (v : (⟨4, ![n0, n1, 25, n3]⟩ : Shape).Idx → EReal) (i : Fin n0) (j : Fin n1) (l : Fin n3) :
    Finset.fold max (Ideal.ofBits .f32 0xFF800000#32) v (Finset.univ.filter fun x => h.drop x = ix3 i j l) = Spec.high fun t => v (ix4 i j t l) := by
  rw [Consts.w_bot]
  show (Finset.univ.filter fun x => h.drop x = ix3 i j l).sup v = _
  rw [filter_axis2, Finset.sup_image]
  rfl

/-- A sum over a square table's entries, counted row by row. -/
theorem sum_square {N : ℕ} (K : ℕ) (h : N = K * K) (f : Fin K → Fin K → EReal) (h1 : ∀ t : Fin N, t / K < K) (h2 : ∀ t : Fin N, t % K < K) :
    (∑ t : Fin N, f ⟨t / K, h1 t⟩ ⟨t % K, h2 t⟩) = ∑ i, ∑ j, f i j := by
  subst h
  rw [← Fintype.sum_prod_type' fun i j : Fin K => f i j]
  exact Fintype.sum_equiv finProdFinEquiv.symm _ _ fun t => rfl

/-- The mean entropy, from the windows' frequencies listed row by row. -/
theorem meanEntropy_of (a : Fin 18 → Fin 18 → EReal) (p : Fin 196 → Fin 25 → EReal)
    (hp : ∀ q k, p q k = Spec.freq (Spec.window a ⟨q / 14, by omega⟩ ⟨q % 14, by omega⟩) k) :
    Ideal.div (∑ q, ∑ k, -p q k * Ideal.log (Spec.clip (p q k))) ((196 : ℝ) : EReal) = Spec.meanEntropy a := by
  simp only [hp]
  exact congrArg (Ideal.div · _) (sum_square 14 rfl (fun y z => Spec.entropy (Spec.window a y z)) _ _)

theorem w24_eq : (FloatOps.sitofp .f32 24#32 : Ideal .f32) = ((24 : ℝ) : EReal) := by
  show (((24#32 : BitVec 32).toInt : ℝ) : EReal) = ((24 : ℝ) : EReal)
  rw [show (24#32 : BitVec 32).toInt = 24 by decide]
  norm_num

/-- The number of a window's values in bin `k`, counted in integers, over 25. -/
theorem freq_of (e : Fin 25 → EReal) (k : Fin 25) :
    Ideal.div (FloatOps.sitofp .f32 (Finset.fold IntOp.addi (0#32) (fun x => BitVec.setWidth 32 (IntOp.cmpi .eq
        (FloatOps.fptosi 32 (min (FloatOps.sitofp .f32 24#32 : Ideal .f32) (max (FloatOps.sitofp .f32 0#32 : Ideal .f32)
          (Ideal.liftRound Int.floor (e x))) : Ideal .f32)) (BitVec.ofNat 32 k))) Finset.univ) : Ideal .f32) (Ideal.ofBits .f32 0x41C80000#32)
      = Ideal.div (∑ t, ((((Ideal.cmp .oeq (Scalars.bin (e t)) ((k.val : ℝ) : EReal)).setWidth 32).toInt : ℝ) : EReal)) ((25 : ℝ) : EReal) := by
  rw [zero_eq, w24_eq, Consts.w25, ← Scalars.count_eq]
  simp only [Scalars.bin_cmp _ k.isLt]
  rfl

variable (V0 : Valuation τ sig (Elt Ideal))

theorem v57_apply (a : FVec Ideal S64x8x56x56 .f32) (ha : res_main_v37 V0 = a) (g s : FVec Ideal S8 .f32)
    (hg : V0 (Proc.devRef .tc main_arg7) = g) (hs : V0 (Proc.devRef .tc main_arg8) = s) (n : Fin 64) (o : Fin 8) (y z : Fin 58) :
    res_main_v57 V0 (ix4 n o y z) =
      Spec.border 1 56 (Spec.groupNorm ((3136 : ℝ) : EReal) (Spec.at1 g o) (Spec.at1 s o) (Spec.at4 a n o)) y z := by
  refine (pad1_apply _ n o y z).trans (congrArg (fun f => Spec.border 1 56 f y z) (funext fun y => funext fun z => ?_))
  unfold res_main_call1_v5 res_main_call1_v8 Spec.at4
  rw [ha, hg, hs]
  pointwise
  rw [guard Consts.w3136 (by norm_num) (Ideal.div _), Consts.w3136]
  rfl

end Cert.ReferenceIdeal.Body
-- ==== Proof.RefEnt1.lean ====
/-
  The reference's second block: the windows' entropies and the normalisation weighted by them.
-/
module

public import proofs.«01_k».proof.Proof.RefNorm

@[expose] public section

set_option maxRecDepth 16384

noncomputable section

open Idealize.ShloMosaic Idealize.ShloMosaic.TcCoe Idealize.ShloMosaic.Tactic Idealize.ShloMosaic.StableHlo

namespace Cert.ReferenceIdeal.Body

open Cert.ReferenceIdeal Cert.ReferenceIdeal.Gen Cert.ReferenceIdeal.Value

variable (V0 : Valuation τ sig (Elt Ideal))

theorem v97_apply (a : FVec Ideal S64x16x18x18 .f32) (ha : res_main_v86 V0 = a) (n : Fin 64) (o : Fin 16) (i : Fin 5) (y : Fin 14) (z : Fin 18) :
    res_main_v97 V0 (ix5 n o i y z) = a (ix4 n o ⟨i + y, by omega⟩ z) := by
  unfold res_main_v97
  rw [ha]
  fin_vals i with hi
  all_goals
    pointwise
    simp only [hi, Nat.reduceSub, Nat.reduceLT, ↓reduceDIte, Nat.zero_add]

theorem windows1_apply (p : FVec Ideal S64x16x5x5x14x14 .f32) (n : Fin 64) (o : Fin 16) (t : Fin 25) (q : Fin 196) :
    shapeCast S64x16x25x196 (shapeCast S64x16x25x14x14 p shapeCasts_S64x16x5x5x14x14_S64x16x25x14x14) shapeCasts_S64x16x25x14x14_S64x16x25x196
      (ix4 n o t q) = p (ix6 n o ⟨t / 5, by omega⟩ ⟨t % 5, by omega⟩ ⟨q / 14, by omega⟩ ⟨q % 14, by omega⟩) := by
  pointwise

theorem v110_apply (a : FVec Ideal S64x16x18x18 .f32) (ha : res_main_v86 V0 = a) (n : Fin 64) (o : Fin 16) (t : Fin 25) (q : Fin 196) :
    res_main_v110 V0 (ix4 n o t q) = Spec.window (Spec.at4 a n o) ⟨q / 14, by omega⟩ ⟨q % 14, by omega⟩ t := by
  refine (windows1_apply _ n o t q).trans ?_
  obtain ⟨b, hb⟩ : ∃ b : FVec Ideal S64x16x5x14x18 .f32, res_main_v97 V0 = b := ⟨_, rfl⟩
  have h (i j : Fin 5) (y z : Fin 14) : b (ix5 n o i y ⟨j + z, by omega⟩) = Spec.at4 a n o ⟨y + i, by omega⟩ ⟨z + j, by omega⟩ := by
    rw [← hb]
    refine (v97_apply V0 a ha n o i y _).trans ?_
    unfold Spec.at4
    simp only [Nat.add_comm]
  refine Eq.trans ?_ (h ⟨t / 5, by omega⟩ ⟨t % 5, by omega⟩ _ _)
  generalize (⟨t / 5, by omega⟩ : Fin 5) = i
  generalize (⟨t % 5, by omega⟩ : Fin 5) = j
  rw [hb]
  fin_vals j with hj
  all_goals
    pointwise
    simp only [hj, Nat.reduceSub, Nat.reduceLT, ↓reduceDIte, Nat.zero_add]

theorem v112_apply (v : FVec Ideal S64x16x25x196 .f32) (hv : res_main_v110 V0 = v) (n : Fin 64) (o : Fin 16) (q : Fin 196) :
    res_main_v112 V0 (ix4 n o 0 q) = Spec.low fun t => v (ix4 n o t q) := by
  unfold res_main_v112
  rw [hv]
  pointwise
  exact min_axis2 _ v n o q

theorem v114_apply (v : FVec Ideal S64x16x25x196 .f32) (hv : res_main_v110 V0 = v) (n : Fin 64) (o : Fin 16) (q : Fin 196) :
    res_main_v114 V0 (ix4 n o 0 q) = Spec.high fun t => v (ix4 n o t q) := by
  unfold res_main_v114
  rw [hv]
  pointwise
  exact max_axis2 _ v n o q

theorem v138_apply (v : FVec Ideal S64x16x25x196 .f32) (hv : res_main_v110 V0 = v) (n : Fin 64) (o : Fin 16) (q : Fin 196) (k : Fin 25) :
    res_main_v138 V0 (ix4 n o q k) = Spec.freq (fun t => v (ix4 n o t q)) k := by
  obtain ⟨lo, hlo⟩ : ∃ lo : FVec Ideal S64x16x1x196 .f32, res_main_v112 V0 = lo := ⟨_, rfl⟩
  obtain ⟨hi, hhi⟩ : ∃ hi : FVec Ideal S64x16x1x196 .f32, res_main_v114 V0 = hi := ⟨_, rfl⟩
  have elo := (congrFun hlo (ix4 n o 0 q)).symm.trans (v112_apply V0 v hv n o q)
  have ehi := (congrFun hhi (ix4 n o 0 q)).symm.trans (v114_apply V0 v hv n o q)
  unfold res_main_v138
  rw [hv, hlo, hhi]
  pointwise
  rw [elo, ehi]
  refine (freq_of _ k).trans ?_
  rw [Consts.w25]
  rfl

theorem v171_apply (a : FVec Ideal S64x16x18x18 .f32) (ha : res_main_v86 V0 = a) (g s : FVec Ideal S16 .f32)
    (hg : V0 (Proc.devRef .tc main_arg9) = g) (hs : V0 (Proc.devRef .tc main_arg10) = s) (n : Fin 64) (o : Fin 16) (y z : Fin 20) :
    res_main_v171 V0 (ix4 n o y z) = Spec.border 1 18 (Spec.entNorm (Spec.at1 g o) (Spec.at1 s o) (Spec.at4 a n o)) y z := by
  refine (pad2_apply _ n o y z).trans (congrArg (fun f => Spec.border 1 18 f y z) (funext fun y => funext fun z => ?_))
  obtain ⟨p, hp⟩ : ∃ p : FVec Ideal S64x16x196x25 .f32, res_main_v138 V0 = p := ⟨_, rfl⟩
  rw [Spec.at4]
  unfold res_main_call7_v5 res_main_call7_v8
  rw [ha, hg, hs, hp]
  pointwise
  rw [guard Consts.w324 (by norm_num) (Ideal.div _), Consts.w324, Consts.w196]
  unfold Spec.entNorm
  rw [← meanEntropy_of (Spec.at4 a n o) (fun q k => p (ix4 n o q k)) fun q k => ?_]
  · rfl
  · obtain ⟨v, hv⟩ : ∃ v : FVec Ideal S64x16x25x196 .f32, res_main_v110 V0 = v := ⟨_, rfl⟩
    refine (congrFun hp _).symm.trans ((v138_apply V0 v hv n o q k).trans (congrArg (Spec.freq · k) (funext fun t => ?_)))
    exact (congrFun hv _).symm.trans (v110_apply V0 a ha n o t q)

end Cert.ReferenceIdeal.Body
-- ==== Proof.RefEnt2.lean ====
/-
  The reference's third block: the windows' entropies and the normalisation weighted by them.
-/
module

public import proofs.«01_k».proof.Proof.RefNorm

@[expose] public section

set_option maxRecDepth 16384

noncomputable section

open Idealize.ShloMosaic Idealize.ShloMosaic.TcCoe Idealize.ShloMosaic.Tactic Idealize.ShloMosaic.StableHlo

namespace Cert.ReferenceIdeal.Body

open Cert.ReferenceIdeal Cert.ReferenceIdeal.Gen Cert.ReferenceIdeal.Value

variable (V0 : Valuation τ sig (Elt Ideal))

theorem v203_apply (a : FVec Ideal S64x32x18x18 .f32) (ha : res_main_v192 V0 = a) (n : Fin 64) (o : Fin 32) (i : Fin 5) (y : Fin 14) (z : Fin 18) :
    res_main_v203 V0 (ix5 n o i y z) = a (ix4 n o ⟨i + y, by omega⟩ z) := by
  unfold res_main_v203
  rw [ha]
  fin_vals i with hi
  all_goals
    pointwise
    simp only [hi, Nat.reduceSub, Nat.reduceLT, ↓reduceDIte, Nat.zero_add]

theorem windows2_apply (p : FVec Ideal S64x32x5x5x14x14 .f32) (n : Fin 64) (o : Fin 32) (t : Fin 25) (q : Fin 196) :
    shapeCast S64x32x25x196 (shapeCast S64x32x25x14x14 p shapeCasts_S64x32x5x5x14x14_S64x32x25x14x14) shapeCasts_S64x32x25x14x14_S64x32x25x196
      (ix4 n o t q) = p (ix6 n o ⟨t / 5, by omega⟩ ⟨t % 5, by omega⟩ ⟨q / 14, by omega⟩ ⟨q % 14, by omega⟩) := by
  pointwise

theorem v216_apply (a : FVec Ideal S64x32x18x18 .f32) (ha : res_main_v192 V0 = a) (n : Fin 64) (o : Fin 32) (t : Fin 25) (q : Fin 196) :
    res_main_v216 V0 (ix4 n o t q) = Spec.window (Spec.at4 a n o) ⟨q / 14, by omega⟩ ⟨q % 14, by omega⟩ t := by
  refine (windows2_apply _ n o t q).trans ?_
  obtain ⟨b, hb⟩ : ∃ b : FVec Ideal S64x32x5x14x18 .f32, res_main_v203 V0 = b := ⟨_, rfl⟩
  have h (i j : Fin 5) (y z : Fin 14) : b (ix5 n o i y ⟨j + z, by omega⟩) = Spec.at4 a n o ⟨y + i, by omega⟩ ⟨z + j, by omega⟩ := by
    rw [← hb]
    refine (v203_apply V0 a ha n o i y _).trans ?_
    unfold Spec.at4
    simp only [Nat.add_comm]
  refine Eq.trans ?_ (h ⟨t / 5, by omega⟩ ⟨t % 5, by omega⟩ _ _)
  generalize (⟨t / 5, by omega⟩ : Fin 5) = i
  generalize (⟨t % 5, by omega⟩ : Fin 5) = j
  rw [hb]
  fin_vals j with hj
  all_goals
    pointwise
    simp only [hj, Nat.reduceSub, Nat.reduceLT, ↓reduceDIte, Nat.zero_add]

theorem v218_apply (v : FVec Ideal S64x32x25x196 .f32) (hv : res_main_v216 V0 = v) (n : Fin 64) (o : Fin 32) (q : Fin 196) :
    res_main_v218 V0 (ix4 n o 0 q) = Spec.low fun t => v (ix4 n o t q) := by
  unfold res_main_v218
  rw [hv]
  pointwise
  exact min_axis2 _ v n o q

theorem v220_apply (v : FVec Ideal S64x32x25x196 .f32) (hv : res_main_v216 V0 = v) (n : Fin 64) (o : Fin 32) (q : Fin 196) :
    res_main_v220 V0 (ix4 n o 0 q) = Spec.high fun t => v (ix4 n o t q) := by
  unfold res_main_v220
  rw [hv]
  pointwise
  exact max_axis2 _ v n o q

theorem v244_apply (v : FVec Ideal S64x32x25x196 .f32) (hv : res_main_v216 V0 = v) (n : Fin 64) (o : Fin 32) (q : Fin 196) (k : Fin 25) :
    res_main_v244 V0 (ix4 n o q k) = Spec.freq (fun t => v (ix4 n o t q)) k := by
  obtain ⟨lo, hlo⟩ : ∃ lo : FVec Ideal S64x32x1x196 .f32, res_main_v218 V0 = lo := ⟨_, rfl⟩
  obtain ⟨hi, hhi⟩ : ∃ hi : FVec Ideal S64x32x1x196 .f32, res_main_v220 V0 = hi := ⟨_, rfl⟩
  have elo := (congrFun hlo (ix4 n o 0 q)).symm.trans (v218_apply V0 v hv n o q)
  have ehi := (congrFun hhi (ix4 n o 0 q)).symm.trans (v220_apply V0 v hv n o q)
  unfold res_main_v244
  rw [hv, hlo, hhi]
  pointwise
  rw [elo, ehi]
  refine (freq_of _ k).trans ?_
  rw [Consts.w25]
  rfl

/-- The images of a sample as one row. -/
theorem flat_apply (x : FVec Ideal S64x32x18x18 .f32) (n : Fin 64) (f : Fin 10368) :
    shapeCast S64x10368 x shapeCasts_S64x32x18x18_S64x10368 (ix2 n f) = Spec.flat (Spec.at4 x) n f := by
  unfold Spec.flat Spec.at4
  pointwise

theorem v277_apply (a : FVec Ideal S64x32x18x18 .f32) (ha : res_main_v192 V0 = a) (g s : FVec Ideal S32 .f32)
    (hg : V0 (Proc.devRef .tc main_arg11) = g) (hs : V0 (Proc.devRef .tc main_arg12) = s) (n : Fin 64) (f : Fin 10368) :
    res_main_v277 V0 (ix2 n f) = Spec.flat (fun n o => Spec.entNorm (Spec.at1 g o) (Spec.at1 s o) (Spec.at4 a n o)) n f := by
  refine (flat_apply _ n f).trans (congrArg (fun x => Spec.flat x n f) (funext fun n => funext fun o => funext fun y => funext fun z => ?_))
  obtain ⟨p, hp⟩ : ∃ p : FVec Ideal S64x32x196x25 .f32, res_main_v244 V0 = p := ⟨_, rfl⟩
  rw [Spec.at4]
  unfold res_main_call13_v5 res_main_call13_v8
  rw [ha, hg, hs, hp]
  pointwise
  rw [guard Consts.w324 (by norm_num) (Ideal.div _), Consts.w324, Consts.w196]
  unfold Spec.entNorm
  rw [← meanEntropy_of (Spec.at4 a n o) (fun q k => p (ix4 n o q k)) fun q k => ?_]
  · rfl
  · obtain ⟨v, hv⟩ : ∃ v : FVec Ideal S64x32x25x196 .f32, res_main_v216 V0 = v := ⟨_, rfl⟩
    refine (congrFun hp _).symm.trans ((v244_apply V0 v hv n o q k).trans (congrArg (Spec.freq · k) (funext fun t => ?_)))
    exact (congrFun hv _).symm.trans (v216_apply V0 a ha n o t q)

end Cert.ReferenceIdeal.Body
-- ==== Proof.RefHeads.lean ====
/-
  The reference's batch normalisation, dense layer and softmax heads.
-/
module

public import proofs.«01_k».proof.Proof.RefEnt1
public import proofs.«01_k».proof.Proof.RefEnt2

@[expose] public section

set_option maxRecDepth 16384

noncomputable section

open Idealize.ShloMosaic Idealize.ShloMosaic.TcCoe Idealize.ShloMosaic.Tactic Idealize.ShloMosaic.StableHlo

namespace Cert.ReferenceIdeal.Body

open Cert.ReferenceIdeal Cert.ReferenceIdeal.Gen Cert.ReferenceIdeal.Value

/-- The greatest value of a row. -/
theorem row_max {k l : ℕ} (h : (⟨2, ![k, l]⟩ : Shape).ReducesTo [1] ⟨1, ![k]⟩) (v : (⟨2, ![k, l]⟩ : Shape).Idx → EReal) (i : Fin k) :
    max (Ideal.ofBits .f32 0xFF800000#32) (Finset.fold max (Ideal.ofBits .f32 0xFF800000#32) v (Finset.univ.filter fun x => h.drop x = ix1 i))
      = Finset.univ.sup (Spec.at2 v i) := by
  have e : (Finset.univ.filter fun x => h.drop x = ix1 i) = Finset.univ.image fun j : Fin l => ix2 i j := by
    ext x
    simp only [Finset.mem_filter, Finset.mem_univ, true_and, Finset.mem_image]
    constructor
    · intro e
      have e0 : x 0 = i := Fin.ext (congrArg Fin.val (congrFun e 0))
      refine ⟨x 1, ?_⟩
      rw [← e0]
      exact ix2_eta x
    · rintro ⟨j, rfl⟩
      funext b
      fin_cases b
      rfl
  rw [Consts.w_bot, max_eq_right bot_le]
  show (Finset.univ.filter fun x => h.drop x = ix1 i).sup v = _
  rw [e, Finset.sup_image]
  rfl

variable (V0 : Valuation τ sig (Elt Ideal))

theorem v302_apply (x : FVec Ideal S64x10368 .f32) (hx : res_main_v277 V0 = x) (g s : FVec Ideal S10368 .f32) (w : FVec Ideal S32x10368 .f32)
    (b : FVec Ideal S32 .f32) (hg : V0 (Proc.devRef .tc main_arg13) = g) (hs : V0 (Proc.devRef .tc main_arg14) = s)
    (hw : V0 (Proc.devRef .tc main_arg15) = w) (hb : V0 (Proc.devRef .tc main_arg16) = b) (n : Fin 64) (o : Fin 32) :
    res_main_v302 V0 (ix2 n o) = Spec.hidden (Spec.at1 g) (Spec.at1 s) (Spec.at2 w) (Spec.at1 b) (Spec.at2 x) n o := by
  unfold res_main_v302 res_main_call15_v5 res_main_call15_v8
  rw [hx, hg, hs, hw, hb]
  pointwise
  simp only [guard Consts.w64 (by norm_num : (0 : ℝ) < 64) (Ideal.div _)]
  rw [Consts.w64]
  rfl

theorem v307_apply (h : FVec Ideal S64x32 .f32) (hh : res_main_v302 V0 = h) (w : FVec Ideal S5x32 .f32) (b : FVec Ideal S5 .f32)
    (hw : V0 (Proc.devRef .tc main_arg17) = w) (hb : V0 (Proc.devRef .tc main_arg18) = b) (n : Fin 64) (i : Fin 5) :
    res_main_v307 V0 (ix2 n i) = Spec.dense (Spec.at2 w) (Spec.at1 b) (Spec.at2 h n) i := by
  unfold res_main_v307
  rw [hh, hw, hb]
  pointwise
  rfl

theorem soft5_apply (v : FVec Ideal S64x5 .f32) (hv : res_main_v307 V0 = v) (n : Fin 64) (i : Fin 5) :
    Host.divf (res_main_v314 V0) (broadcastInDim S64x5 ![0, 1] bcast_S64x1_S64x5_0_1 (broadcastInDim S64x1 ![0] bcast_S64_S64x1_0
      (Host.reduceAdd (res_main_v314 V0) (constant S_ .f32 0x00000000#32) reducesTo_S64x5_S64_d1 h_S_))) (ix2 n i) = Spec.softmax (Spec.at2 v n) i := by
  unfold res_main_v314
  rw [hv]
  pointwise
  exact Spec.softmax_of (Spec.at2 v n) i _ (row_max _ v n)

theorem v323_apply (h : FVec Ideal S64x32 .f32) (hh : res_main_v302 V0 = h) (w : FVec Ideal S2x32 .f32) (b : FVec Ideal S2 .f32)
    (hw : V0 (Proc.devRef .tc main_arg19) = w) (hb : V0 (Proc.devRef .tc main_arg20) = b) (n : Fin 64) (i : Fin 2) :
    res_main_v323 V0 (ix2 n i) = Spec.dense (Spec.at2 w) (Spec.at1 b) (Spec.at2 h n) i := by
  unfold res_main_v323
  rw [hh, hw, hb]
  pointwise
  rfl

theorem soft2_apply (v : FVec Ideal S64x2 .f32) (hv : res_main_v323 V0 = v) (n : Fin 64) (i : Fin 2) :
    Host.divf (res_main_v330 V0) (broadcastInDim S64x2 ![0, 1] bcast_S64x1_S64x2_0_1 (broadcastInDim S64x1 ![0] bcast_S64_S64x1_0
      (Host.reduceAdd (res_main_v330 V0) (constant S_ .f32 0x00000000#32) reducesTo_S64x2_S64_d1 h_S_))) (ix2 n i) = Spec.softmax (Spec.at2 v n) i := by
  unfold res_main_v330
  rw [hv]
  pointwise
  exact Spec.softmax_of (Spec.at2 v n) i _ (row_max _ v n)

end Cert.ReferenceIdeal.Body
-- ==== Proof.RefNet.lean ====
/-
  The reference's results as functions of the arguments: the stages of its term, one after another.
-/
module

public import proofs.«01_k».proof.Proof.RefConv
public import proofs.«01_k».proof.Proof.RefHeads

@[expose] public section

set_option maxRecDepth 16384

noncomputable section

open Idealize.ShloMosaic Idealize.ShloMosaic.TcCoe Idealize.ShloMosaic.Tactic Idealize.ShloMosaic.StableHlo

namespace Cert.ReferenceIdeal.Body

open Cert.ReferenceIdeal Cert.ReferenceIdeal.Gen Cert.ReferenceIdeal.Value

variable (V0 : Valuation τ sig (Elt Ideal))

/-- The first block's images. -/
def ref1 : Fin 64 → Fin 8 → Fin 56 → Fin 56 → EReal :=
  Spec.first (Spec.at4 (V0 (Proc.devRef .tc main_arg1) : FVec Ideal S8x3x7x7 .f32)) (Spec.at1 (V0 (Proc.devRef .tc main_arg2) : FVec Ideal S8 .f32))
    (Spec.at1 (V0 (Proc.devRef .tc main_arg7) : FVec Ideal S8 .f32)) (Spec.at1 (V0 (Proc.devRef .tc main_arg8) : FVec Ideal S8 .f32))
    (Spec.at4 (V0 (Proc.devRef .tc main_arg0) : FVec Ideal S64x3x224x224 .f32))

/-- The second block's images. -/
def ref2 : Fin 64 → Fin 16 → Fin 18 → Fin 18 → EReal :=
  Spec.second (Spec.at4 (V0 (Proc.devRef .tc main_arg3) : FVec Ideal S16x8x5x5 .f32)) (Spec.at1 (V0 (Proc.devRef .tc main_arg4) : FVec Ideal S16 .f32))
    (Spec.at1 (V0 (Proc.devRef .tc main_arg9) : FVec Ideal S16 .f32)) (Spec.at1 (V0 (Proc.devRef .tc main_arg10) : FVec Ideal S16 .f32)) (ref1 V0)

/-- The third block's images. -/
def ref3 : Fin 64 → Fin 32 → Fin 18 → Fin 18 → EReal :=
  Spec.third (Spec.at4 (V0 (Proc.devRef .tc main_arg5) : FVec Ideal S32x16x3x3 .f32)) (Spec.at1 (V0 (Proc.devRef .tc main_arg6) : FVec Ideal S32 .f32))
    (Spec.at1 (V0 (Proc.devRef .tc main_arg11) : FVec Ideal S32 .f32)) (Spec.at1 (V0 (Proc.devRef .tc main_arg12) : FVec Ideal S32 .f32)) (ref2 V0)

/-- The hidden layer. -/
def refHid : Fin 64 → Fin 32 → EReal :=
  Spec.trunk (ref3 V0) (Spec.at1 (V0 (Proc.devRef .tc main_arg13) : FVec Ideal S10368 .f32))
    (Spec.at1 (V0 (Proc.devRef .tc main_arg14) : FVec Ideal S10368 .f32)) (Spec.at2 (V0 (Proc.devRef .tc main_arg15) : FVec Ideal S32x10368 .f32))
    (Spec.at1 (V0 (Proc.devRef .tc main_arg16) : FVec Ideal S32 .f32))

theorem first_border (n : Fin 64) (o : Fin 8) (y z : Fin 58) : res_main_v57 V0 (ix4 n o y z) = Spec.border 1 56 (ref1 V0 n o) y z := by
  obtain ⟨a, ha⟩ : ∃ a : FVec Ideal S64x8x56x56 .f32, res_main_v37 V0 = a := ⟨_, rfl⟩
  refine (v57_apply V0 a ha _ _ rfl rfl n o y z).trans (congrArg (fun f => Spec.border 1 56 f y z) (funext fun y => funext fun z => ?_))
  refine congrArg (fun f => Spec.groupNorm _ _ _ f y z) (funext fun y => funext fun z => ?_)
  exact (congrFun ha (ix4 n o y z)).symm.trans (v37_apply V0 _ (fun n k y z => v0_apply V0 _ rfl n k y z) n o y z)

theorem second_border (n : Fin 64) (o : Fin 16) (y z : Fin 20) : res_main_v171 V0 (ix4 n o y z) = Spec.border 1 18 (ref2 V0 n o) y z := by
  obtain ⟨a, ha⟩ : ∃ a : FVec Ideal S64x16x18x18 .f32, res_main_v86 V0 = a := ⟨_, rfl⟩
  refine (v171_apply V0 a ha _ _ rfl rfl n o y z).trans (congrArg (fun f => Spec.border 1 18 f y z) (funext fun y => funext fun z => ?_))
  refine congrArg (fun f => Spec.entNorm _ _ f y z) (funext fun y => funext fun z => ?_)
  exact (congrFun ha (ix4 n o y z)).symm.trans (v86_apply V0 _ (first_border V0) n o y z)

theorem third_rows (n : Fin 64) (f : Fin 10368) : res_main_v277 V0 (ix2 n f) = Spec.flat (ref3 V0) n f := by
  obtain ⟨a, ha⟩ : ∃ a : FVec Ideal S64x32x18x18 .f32, res_main_v192 V0 = a := ⟨_, rfl⟩
  refine (v277_apply V0 a ha _ _ rfl rfl n f).trans (congrArg (fun x => Spec.flat x n f) (funext fun n => funext fun o => funext fun y => funext fun z => ?_))
  refine congrArg (fun f => Spec.entNorm _ _ f y z) (funext fun y => funext fun z => ?_)
  exact (congrFun ha (ix4 n o y z)).symm.trans (v192_apply V0 _ (second_border V0) n o y z)

theorem hidden_layer (n : Fin 64) (o : Fin 32) : res_main_v302 V0 (ix2 n o) = refHid V0 n o := by
  obtain ⟨x, hx⟩ : ∃ x : FVec Ideal S64x10368 .f32, res_main_v277 V0 = x := ⟨_, rfl⟩
  refine (v302_apply V0 x hx _ _ _ _ rfl rfl rfl rfl n o).trans (congrArg (fun x => Spec.hidden _ _ _ _ x n o) (funext fun n => funext fun f => ?_))
  exact (congrFun hx (ix2 n f)).symm.trans (third_rows V0 n f)

/-- The five-class result. -/
def refFive : FVec Ideal S64x5 .f32 := fun i : S64x5.Idx =>
  Spec.softmax (Spec.dense (Spec.at2 (V0 (Proc.devRef .tc main_arg17) : FVec Ideal S5x32 .f32))
    (Spec.at1 (V0 (Proc.devRef .tc main_arg18) : FVec Ideal S5 .f32)) (refHid V0 (i 0))) (i 1)

/-- The two-class result. -/
def refTwo : FVec Ideal S64x2 .f32 := fun i : S64x2.Idx =>
  Spec.softmax (Spec.dense (Spec.at2 (V0 (Proc.devRef .tc main_arg19) : FVec Ideal S2x32 .f32))
    (Spec.at1 (V0 (Proc.devRef .tc main_arg20) : FVec Ideal S2 .f32)) (refHid V0 (i 0))) (i 1)

theorem result_five : (Host.divf (res_main_v314 V0) (broadcastInDim S64x5 ![0, 1] bcast_S64x1_S64x5_0_1 (broadcastInDim S64x1 ![0] bcast_S64_S64x1_0
    (Host.reduceAdd (res_main_v314 V0) (constant S_ .f32 0x00000000#32) reducesTo_S64x5_S64_d1 h_S_))) : FVec Ideal S64x5 .f32) = refFive V0 := by
  funext j
  obtain ⟨v, hv⟩ : ∃ v : FVec Ideal S64x5 .f32, res_main_v307 V0 = v := ⟨_, rfl⟩
  obtain ⟨h, hh⟩ : ∃ h : FVec Ideal S64x32 .f32, res_main_v302 V0 = h := ⟨_, rfl⟩
  refine (congrArg _ (ix2_eta j).symm).trans ((soft5_apply V0 v hv (j 0) (j 1)).trans (congrArg (fun v => Spec.softmax v (j 1)) (funext fun i => ?_)))
  refine (congrFun hv (ix2 (j 0) i)).symm.trans ((v307_apply V0 h hh _ _ rfl rfl (j 0) i).trans (congrArg (fun h => Spec.dense _ _ h i) (funext fun o => ?_)))
  exact (congrFun hh (ix2 (j 0) o)).symm.trans (hidden_layer V0 (j 0) o)

theorem result_two : (Host.divf (res_main_v330 V0) (broadcastInDim S64x2 ![0, 1] bcast_S64x1_S64x2_0_1 (broadcastInDim S64x1 ![0] bcast_S64_S64x1_0
    (Host.reduceAdd (res_main_v330 V0) (constant S_ .f32 0x00000000#32) reducesTo_S64x2_S64_d1 h_S_))) : FVec Ideal S64x2 .f32) = refTwo V0 := by
  funext j
  obtain ⟨v, hv⟩ : ∃ v : FVec Ideal S64x2 .f32, res_main_v323 V0 = v := ⟨_, rfl⟩
  obtain ⟨h, hh⟩ : ∃ h : FVec Ideal S64x32 .f32, res_main_v302 V0 = h := ⟨_, rfl⟩
  refine (congrArg _ (ix2_eta j).symm).trans ((soft2_apply V0 v hv (j 0) (j 1)).trans (congrArg (fun v => Spec.softmax v (j 1)) (funext fun i => ?_)))
  refine (congrFun hv (ix2 (j 0) i)).symm.trans ((v323_apply V0 h hh _ _ rfl rfl (j 0) i).trans (congrArg (fun h => Spec.dense _ _ h i) (funext fun o => ?_)))
  exact (congrFun hh (ix2 (j 0) o)).symm.trans (hidden_layer V0 (j 0) o)

end Cert.ReferenceIdeal.Body
-- ==== Proof.Equal.lean ====
/-
  The claims: the kernel's and the reference's results are one function of the arguments.
-/
module

public import proofs.«01_k».proof.Defs
public import proofs.«01_k».proof.Proof.KernelRun
public import proofs.«01_k».proof.Proof.RefNet
public import proofs.«01_k».proof.Proof.Gen.Kernel.Frame
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Whole

open Cert.KernelIdeal.Body Cert.ReferenceIdeal.Body

/-! ### Where the arguments agree the two programs' functions agree -/

variable (m : (ℓ : Loc KernelIdeal.nD KernelIdeal.τ KernelIdeal.sig) → Buf (Elt Ideal) ℓ)
  (c : Dev KernelIdeal.nD) (V0 : Valuation ReferenceIdeal.τ ReferenceIdeal.sig (Elt Ideal))

theorem first_eq (h0 : V0 (Proc.devRef .tc ReferenceIdeal.main_arg0) = argAt m c KernelIdeal.main_arg0)
    (h1 : V0 (Proc.devRef .tc ReferenceIdeal.main_arg1) = argAt m c KernelIdeal.main_arg1)
    (h2 : V0 (Proc.devRef .tc ReferenceIdeal.main_arg2) = argAt m c KernelIdeal.main_arg2)
    (h7 : V0 (Proc.devRef .tc ReferenceIdeal.main_arg7) = argAt m c KernelIdeal.main_arg7)
    (h8 : V0 (Proc.devRef .tc ReferenceIdeal.main_arg8) = argAt m c KernelIdeal.main_arg8) : ref1 V0 = img1 m c := by
  unfold ref1 img1
  rw [h0, h1, h2, h7, h8]

theorem second_eq (h : ref1 V0 = img1 m c) (h3 : V0 (Proc.devRef .tc ReferenceIdeal.main_arg3) = argAt m c KernelIdeal.main_arg3)
    (h4 : V0 (Proc.devRef .tc ReferenceIdeal.main_arg4) = argAt m c KernelIdeal.main_arg4)
    (h9 : V0 (Proc.devRef .tc ReferenceIdeal.main_arg9) = argAt m c KernelIdeal.main_arg9)
    (h10 : V0 (Proc.devRef .tc ReferenceIdeal.main_arg10) = argAt m c KernelIdeal.main_arg10) : ref2 V0 = img2 m c := by
  unfold ref2 img2
  rw [h, h3, h4, h9, h10]

theorem third_eq (h : ref2 V0 = img2 m c) (h5 : V0 (Proc.devRef .tc ReferenceIdeal.main_arg5) = argAt m c KernelIdeal.main_arg5)
    (h6 : V0 (Proc.devRef .tc ReferenceIdeal.main_arg6) = argAt m c KernelIdeal.main_arg6)
    (h11 : V0 (Proc.devRef .tc ReferenceIdeal.main_arg11) = argAt m c KernelIdeal.main_arg11)
    (h12 : V0 (Proc.devRef .tc ReferenceIdeal.main_arg12) = argAt m c KernelIdeal.main_arg12) : ref3 V0 = img3 m c := by
  unfold ref3 img3
  rw [h, h5, h6, h11, h12]

theorem hidden_eq (h : ref3 V0 = img3 m c) (h13 : V0 (Proc.devRef .tc ReferenceIdeal.main_arg13) = argAt m c KernelIdeal.main_arg13)
    (h14 : V0 (Proc.devRef .tc ReferenceIdeal.main_arg14) = argAt m c KernelIdeal.main_arg14)
    (h15 : V0 (Proc.devRef .tc ReferenceIdeal.main_arg15) = argAt m c KernelIdeal.main_arg15)
    (h16 : V0 (Proc.devRef .tc ReferenceIdeal.main_arg16) = argAt m c KernelIdeal.main_arg16) : refHid V0 = hid m c := by
  unfold refHid hid
  rw [h, h13, h14, h15, h16]

theorem five_eq (h : refHid V0 = hid m c) (h17 : V0 (Proc.devRef .tc ReferenceIdeal.main_arg17) = argAt m c KernelIdeal.main_arg17)
    (h18 : V0 (Proc.devRef .tc ReferenceIdeal.main_arg18) = argAt m c KernelIdeal.main_arg18) : refFive V0 = five m c := by
  unfold refFive five
  rw [h, h17, h18]

theorem two_eq (h : refHid V0 = hid m c) (h19 : V0 (Proc.devRef .tc ReferenceIdeal.main_arg19) = argAt m c KernelIdeal.main_arg19)
    (h20 : V0 (Proc.devRef .tc ReferenceIdeal.main_arg20) = argAt m c KernelIdeal.main_arg20) : refTwo V0 = two m c := by
  unfold refTwo two
  rw [h, h19, h20]

end Cert.Whole

/-! ### The claims -/

namespace Cert.Proof

open Cert.KernelIdeal.Body Cert.ReferenceIdeal.Body Cert.Whole

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The named constant is the reciprocal of the number of histogram bins. -/
theorem preserves : Cert.preserves_Kernel_KernelIdeal :=
  IdealRules.named_const.statement Cert.KernelIdeal.κ "inv25" .f32 0x3D23D70A#32 ((25⁻¹ : ℝ) : EReal) rfl

/-- From agreeing arguments the kernel and the reference end with the same two results. -/
theorem algebraic : Cert.algebraic_KernelIdeal_ReferenceIdeal := by
  intro m g m' g' _ hagree
  refine ⟨five m, two m, ?_, ?_⟩
  · refine (θ_run Cert.KernelIdeal.defs _ _).mono (fun r h c => ⟨?_, ?_, h.2.1 c⟩)
      (θ_run_and (Cert.KernelIdeal.Body.run m g) (Cert.KernelIdeal.Gen.frame m g))
    · exact (h.1 c _ (Cert.KernelIdeal.Gen.mem_uc Cert.KernelIdeal.main_v27_0 (by decide))).trans (W14_five m g c)
    · exact (h.1 c _ (Cert.KernelIdeal.Gen.mem_uc Cert.KernelIdeal.main_v27_1 (by decide))).trans (W14_two m g c)
  · refine (θ_run Cert.ReferenceIdeal.defs _ _).mono (fun r h c => ⟨(h c).1.trans ?_, (h c).2.1.trans ?_, (h c).2.2⟩)
      (Cert.ReferenceIdeal.Value.run (F := Ideal) m' g')
    all_goals
      obtain ⟨h0, h1, h2, h3, h4, h5, h6, h7, h8, h9, h10, h11, h12, h13, h14, h15, h16, h17, h18, h19, h20⟩ := hagree c
      have e := hidden_eq m c _ (third_eq m c _ (second_eq m c _ (first_eq m c (StableHlo.launchContents m' c) h0 h1 h2 h7 h8) h3 h4 h9 h10)
        h5 h6 h11 h12) h13 h14 h15 h16
    · exact (result_five _).trans (five_eq m c _ e h17 h18)
    · exact (result_two _).trans (two_eq m c _ e h19 h20)

end Cert.Proof
-- ==== Proof.lean ====
/-
  The certificate: three frames, the named constant, and the equality of the kernel and the reference over the extended reals
  (Proof/Equal.lean), behind the witnesses of the facts that the programs state.
-/
module

public import proofs.«01_k».proof.Defs
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_ideal, frame_reference, preserves, algebraic⟩

end Cert.Proof

end
